-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg_log2_eps" .f32 0x4204E08B#32 ((-((Real.log (14411519 / 144115188075855872)) * (Real.log 2)⁻¹) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x200 : Shape := ⟨2, ![1024, 200]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : FVec F S1024x200 .f32) (main_arg1 : IVec S1024x200 32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg1 main_v0
  let main_c_0 : IVec S_ 32 := constantI S_ 32 4#32
  let main_v2 : IVec S1024x200 32 := broadcastInDim S1024x200 ![] bcast_S_S1024x200 main_c_0
  let main_v3 : IVec S1024x200 1 := cmpi .sle main_arg1 main_v2
  let main_v4 : IVec S1024x200 1 := andi main_v1 main_v3
  let main_v5 : FVec F S1024x200 .f32 := Host.absf main_arg0
  let main_cst : FVec F S_ .f32 := constant S_ .f32 0x4C3EBC20#32
  let main_v6 : FVec F S1024x200 .f32 := broadcastInDim S1024x200 ![] bcast_S_S1024x200 main_cst
  let main_v7 : IVec S1024x200 1 := cmpf .ole main_v5 main_v6
  let main_v8 : IVec S1024x200 1 := andi main_v4 main_v7
  main_v8
-- ==== Kernel.lean ====
abbrev S1024x200 : Shape := ⟨2, ![1024, 200]⟩
abbrev S1024x1x200 : Shape := ⟨3, ![1024, 1, 200]⟩
abbrev S16x64x200 : Shape := ⟨3, ![16, 64, 200]⟩
abbrev S16x200x64 : Shape := ⟨3, ![16, 200, 64]⟩
abbrev S16x1x1 : Shape := ⟨3, ![16, 1, 1]⟩
abbrev S_ : Shape := ⟨0, ![]⟩
abbrev S64x1x200 : Shape := ⟨3, ![64, 1, 200]⟩
abbrev S1x200x64 : Shape := ⟨3, ![1, 200, 64]⟩
abbrev S1x1x1 : Shape := ⟨3, ![1, 1, 1]⟩
abbrev S64x200x1 : Shape := ⟨3, ![64, 200, 1]⟩
abbrev S1x200x200 : Shape := ⟨3, ![1, 200, 200]⟩
abbrev S64x200x200 : Shape := ⟨3, ![64, 200, 200]⟩
abbrev S200x1 : Shape := ⟨2, ![200, 1]⟩
abbrev S1x1x200 : Shape := ⟨3, ![1, 1, 200]⟩
abbrev S64x1x1 : Shape := ⟨3, ![64, 1, 1]⟩
abbrev S64x1 : Shape := ⟨2, ![64, 1]⟩
abbrev S1x64x1x1 : Shape := ⟨4, ![1, 64, 1, 1]⟩
abbrev S1 : Shape := ⟨1, ![1]⟩
abbrev S1x1x1x1 : Shape := ⟨4, ![1, 1, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S1024x200, .f32⟩
  | .hbm, ⟨1, _⟩ => ⟨S1024x200, .i32⟩
  | .hbm, ⟨2, _⟩ => ⟨S1024x200, .f32⟩
  | .hbm, ⟨3, _⟩ => ⟨S1024x1x200, .f32⟩
  | .hbm, ⟨4, _⟩ => ⟨S1024x1x200, .f32⟩
  | .hbm, ⟨5, _⟩ => ⟨S16x64x200, .f32⟩
  | .hbm, ⟨6, _⟩ => ⟨S16x200x64, .f32⟩
  | .hbm, ⟨7, _⟩ => ⟨S16x64x200, .f32⟩
  | .hbm, ⟨8, _⟩ => ⟨S16x200x64, .f32⟩
  | .hbm, ⟨9, _⟩ => ⟨S16x1x1, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S64x1x200, .f32⟩
  | .local _ .vmem, ⟨1, _⟩ => ⟨S64x1x200, .f32⟩
  | .local _ .vmem, ⟨2, _⟩ => ⟨S64x1x200, .f32⟩
  | .local _ .vmem, ⟨3, _⟩ => ⟨S64x1x200, .f32⟩
  | .local _ .vmem, ⟨4, _⟩ => ⟨S1x200x64, .f32⟩
  | .local _ .vmem, ⟨5, _⟩ => ⟨S1x200x64, .f32⟩
  | .local _ .vmem, ⟨6, _⟩ => ⟨S1x200x64, .f32⟩
  | .local _ .vmem, ⟨7, _⟩ => ⟨S1x200x64, .f32⟩
  | .local _ .vmem, ⟨8, _⟩ => ⟨S1x1x1, .f32⟩
  | .local _ .vmem, ⟨9, _⟩ => ⟨S1x1x1, .f32⟩
  | _, _ => ⟨S1024x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_cst : Ref sig .tc := ⟨.hbm, 10, rfl⟩
abbrev main_call0_v8 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | "neg_log2_eps" => some ((-((Real.log (14411519 / 144115188075855872)) * (Real.log 2)⁻¹) : ℝ) : EReal)
  | _ => none
-- ==== ReferenceIdeal.lean ====
abbrev S1024x200 : Shape := ⟨2, ![1024, 200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x1x200 : Shape := ⟨3, ![1024, 1, 200]⟩
abbrev S1024x200x200 : Shape := ⟨3, ![1024, 200, 200]⟩
abbrev S200 : Shape := ⟨1, ![200]⟩
abbrev S1x200 : Shape := ⟨2, ![1, 200]⟩
abbrev S1024 : Shape := ⟨1, ![1024]⟩
abbrev S1024x1 : Shape := ⟨2, ![1024, 1]⟩
abbrev S1x200x1 : Shape := ⟨3, ![1, 200, 1]⟩
abbrev S1x1x200 : Shape := ⟨3, ![1, 1, 200]⟩
abbrev S1x200x200 : Shape := ⟨3, ![1, 200, 200]⟩

abbrev nBuf : Space → Nat
  | .hbm => 182
  | .vmem => 0
  | .smem => 0
  | _ => 0

abbrev hbmTy0_0 (i : Nat) : BufTy := match i % 128 with
  | 0 => ⟨S1024x200, .f32⟩
  | 1 => ⟨S1024x200, .i32⟩
  | 2 => ⟨S1024x200, .f32⟩
  | 3 => ⟨S_, .f32⟩
  | 4 => ⟨S1024x200, .f32⟩
  | 5 => ⟨S1024x200, .i1⟩
  | 6 => ⟨S_, .f32⟩
  | 7 => ⟨S_, .f32⟩
  | 8 => ⟨S1024x200, .f32⟩
  | 9 => ⟨S1024x200, .f32⟩
  | 10 => ⟨S_, .f32⟩
  | 11 => ⟨S_, .f32⟩
  | 12 => ⟨S1024x200, .f32⟩
  | 13 => ⟨S1024x200, .f32⟩
  | 14 => ⟨S1024x200, .f32⟩
  | 15 => ⟨S1024x200, .i32⟩
  | 16 => ⟨S1024x200, .f32⟩
  | 17 => ⟨S1024x200, .i32⟩
  | 18 => ⟨S_, .i32⟩
  | 19 => ⟨S1024x200, .i32⟩
  | 20 => ⟨S1024x200, .i1⟩
  | 21 => ⟨S_, .i32⟩
  | 22 => ⟨S1024x200, .i32⟩
  | 23 => ⟨S1024x200, .i32⟩
  | 24 => ⟨S1024x200, .i32⟩
  | 25 => ⟨S1024x200x1, .i32⟩
  | 26 => ⟨S1, .i32⟩
  | 27 => ⟨S_, .i32⟩
  | 28 => ⟨S1024x200x1, .i32⟩
  | 29 => ⟨S1024x200x1, .i1⟩
  | 30 => ⟨S1x1x1, .i32⟩
  | 31 => ⟨S1024x200x1, .i32⟩
  | 32 => ⟨S1024x200x1, .i1⟩
  | 33 => ⟨S1024x200x1, .i1⟩
  | 34 => ⟨S_, .i1⟩
  | 35 => ⟨S1024x200, .i1⟩
  | 36 => ⟨S1024x200, .f32⟩
  | 37 => ⟨S_, .f32⟩
  | 38 => ⟨S1024x200, .f32⟩
  | 39 => ⟨S1024x200, .f32⟩
  | 40 => ⟨S1024x200, .f32⟩
  | 41 => ⟨S1024x200, .f32⟩
  | 42 => ⟨S1024x200, .f32⟩
  | 43 => ⟨S_, .i32⟩
  | 44 => ⟨S1024x200, .i32⟩
  | 45 => ⟨S1024x200, .i1⟩
  | 46 => ⟨S_, .i32⟩
  | 47 => ⟨S1024x200, .i32⟩
  | 48 => ⟨S1024x200, .i32⟩
  | 49 => ⟨S1024x200, .i32⟩
  | 50 => ⟨S1024x200x1, .i32⟩
  | 51 => ⟨S1, .i32⟩
  | 52 => ⟨S_, .i32⟩
  | 53 => ⟨S1024x200x1, .i32⟩
  | 54 => ⟨S1024x200x1, .i1⟩
  | 55 => ⟨S1x1x1, .i32⟩
  | 56 => ⟨S1024x200x1, .i32⟩
  | 57 => ⟨S1024x200x1, .i1⟩
  | 58 => ⟨S1024x200x1, .i1⟩
  | 59 => ⟨S_, .i1⟩
  | 60 => ⟨S1024x200, .i1⟩
  | 61 => ⟨S1024x200, .f32⟩
  | 62 => ⟨S_, .f32⟩
  | 63 => ⟨S1024x200, .f32⟩
  | 64 => ⟨S1024x200, .f32⟩
  | 65 => ⟨S1024x200x1, .f32⟩
  | 66 => ⟨S1024x1x200, .f32⟩
  | 67 => ⟨S1024x200x200, .f32⟩
  | 68 => ⟨S1024x200x200, .f32⟩
  | 69 => ⟨S1024x200x200, .f32⟩
  | 70 => ⟨S1024x200x200, .f32⟩
  | 71 => ⟨S_, .f32⟩
  | 72 => ⟨S1024x200x200, .f32⟩
  | 73 => ⟨S1024x200x200, .i1⟩
  | 74 => ⟨S_, .f32⟩
  | 75 => ⟨S1024x200x200, .f32⟩
  | 76 => ⟨S1024x200x200, .i1⟩
  | 77 => ⟨S1024x200x200, .i1⟩
  | 78 => ⟨S_, .f32⟩
  | 79 => ⟨S1024x200, .f32⟩
  | 80 => ⟨S1024x200, .f32⟩
  | 81 => ⟨S_, .f32⟩
  | 82 => ⟨S1024x200, .f32⟩
  | 83 => ⟨S1024x200, .f32⟩
  | 84 => ⟨S200, .f32⟩
  | 85 => ⟨S_, .f32⟩
  | 86 => ⟨S200, .f32⟩
  | 87 => ⟨S200, .f32⟩
  | 88 => ⟨S_, .f32⟩
  | 89 => ⟨S200, .f32⟩
  | 90 => ⟨S200, .f32⟩
  | 91 => ⟨S200, .f32⟩
  | 92 => ⟨S_, .f32⟩
  | 93 => ⟨S_, .f32⟩
  | 94 => ⟨S200, .f32⟩
  | 95 => ⟨S200, .f32⟩
  | 96 => ⟨S1x200, .f32⟩
  | 97 => ⟨S_, .f32⟩
  | 98 => ⟨S1024x200, .f32⟩
  | 99 => ⟨S1024x200, .f32⟩
  | 100 => ⟨S_, .f32⟩
  | 101 => ⟨S1024x200, .f32⟩
  | 102 => ⟨S1024x200, .f32⟩
  | 103 => ⟨S1024x200, .f32⟩
  | 104 => ⟨S1024x200, .f32⟩
  | 105 => ⟨S_, .f32⟩
  | 106 => ⟨S1024, .f32⟩
  | 107 => ⟨S_, .f32⟩
  | 108 => ⟨S1024, .f32⟩
  | 109 => ⟨S1024, .f32⟩
  | 110 => ⟨S_, .f32⟩
  | 111 => ⟨S1024x200, .f32⟩
  | 112 => ⟨S1024x200, .f32⟩
  | 113 => ⟨S_, .f32⟩
  | 114 => ⟨S1024x200, .f32⟩
  | 115 => ⟨S1024x200, .f32⟩
  | 116 => ⟨S1024x1, .f32⟩
  | 117 => ⟨S1024x200, .f32⟩
  | 118 => ⟨S1024x200, .f32⟩
  | 119 => ⟨S1x200x1, .f32⟩
  | 120 => ⟨S_, .f32⟩
  | 121 => ⟨S1x200x1, .f32⟩
  | 122 => ⟨S1x200x1, .f32⟩
  | 123 => ⟨S1x1x200, .f32⟩
  | 124 => ⟨S_, .f32⟩
  | 125 => ⟨S1x1x200, .f32⟩
  | 126 => ⟨S1x1x200, .f32⟩
  | 127 => ⟨S1x200x200, .f32⟩
  | _ => ⟨S1024x200, .f32⟩

abbrev hbmTy0_1 (i : Nat) : BufTy := match i % 128 with
  | 0 => ⟨S1x200x200, .f32⟩
  | 1 => ⟨S1x200x200, .f32⟩
  | 2 => ⟨S1x200x200, .f32⟩
  | 3 => ⟨S1024x200x1, .f32⟩
  | 4 => ⟨S1024x1x200, .f32⟩
  | 5 => ⟨S1024x200x200, .f32⟩
  | 6 => ⟨S1024x200x200, .f32⟩
  | 7 => ⟨S1024x200x200, .f32⟩
  | 8 => ⟨S1024x200x200, .f32⟩
  | 9 => ⟨S1024x200x200, .f32⟩
  | 10 => ⟨S1024x200x200, .f32⟩
  | 11 => ⟨S1024x200x1, .f32⟩
  | 12 => ⟨S1024x1x200, .f32⟩
  | 13 => ⟨S1024x200x200, .f32⟩
  | 14 => ⟨S1024x200x200, .f32⟩
  | 15 => ⟨S1024x200x200, .f32⟩
  | 16 => ⟨S_, .f32⟩
  | 17 => ⟨S_, .f32⟩
  | 18 => ⟨S_, .f32⟩
  | 19 => ⟨S1024x200x200, .f32⟩
  | 20 => ⟨S1024x200x200, .f32⟩
  | 21 => ⟨S_, .f32⟩
  | 22 => ⟨S1024x200x200, .f32⟩
  | 23 => ⟨S1024x200x200, .f32⟩
  | 24 => ⟨S_, .f32⟩
  | 25 => ⟨S1024x200x200, .f32⟩
  | 26 => ⟨S1024x200x200, .f32⟩
  | 27 => ⟨S1024x200x200, .f32⟩
  | 28 => ⟨S1024x200x200, .f32⟩
  | 29 => ⟨S_, .f32⟩
  | 30 => ⟨S1024x200x200, .f32⟩
  | 31 => ⟨S1024x200x200, .f32⟩
  | 32 => ⟨S_, .f32⟩
  | 33 => ⟨S1024x200x200, .f32⟩
  | 34 => ⟨S1024x200x200, .f32⟩
  | 35 => ⟨S_, .f32⟩
  | 36 => ⟨S1024x200x200, .f32⟩
  | 37 => ⟨S1024x200x200, .f32⟩
  | 38 => ⟨S1024x200x200, .f32⟩
  | 39 => ⟨S_, .f32⟩
  | 40 => ⟨S1024x200x200, .f32⟩
  | 41 => ⟨S1024x200x200, .f32⟩
  | 42 => ⟨S1024x200x200, .f32⟩
  | 43 => ⟨S_, .f32⟩
  | 44 => ⟨S_, .f32⟩
  | 45 => ⟨S1024x200x200, .f32⟩
  | 46 => ⟨S1024x200x200, .f32⟩
  | 47 => ⟨S_, .f32⟩
  | 48 => ⟨S_, .f32⟩
  | 49 => ⟨S1024x200x200, .f32⟩
  | 50 => ⟨S1024x200x200, .f32⟩
  | 51 => ⟨S_, .f32⟩
  | 52 => ⟨S_, .f32⟩
  | 53 => ⟨S_, .f32⟩
  | _ => ⟨S1024x200, .f32⟩

abbrev hbmTy (i : Nat) : BufTy := match i / 128 with
  | 0 => hbmTy0_0 i
  | 1 => hbmTy0_1 i
  | _ => ⟨S1024x200, .f32⟩

abbrev bufTy : (tb : Table) → Fin (tcTables nBuf tb) → BufTy
  | .hbm, ⟨i, _⟩ => hbmTy i
  | _, _ => ⟨S1024x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_v5 : Ref sig .tc := ⟨.hbm, 14, rfl⟩
abbrev main_call2_v0 : Ref sig .tc := ⟨.hbm, 15, rfl⟩
abbrev main_call2_v1_0 : Ref sig .tc := ⟨.hbm, 16, rfl⟩
abbrev main_v6 : Ref sig .tc := ⟨.hbm, 17, rfl⟩
abbrev main_call3_c : Ref sig .tc := ⟨.hbm, 18, rfl⟩
abbrev main_call3_v0 : Ref sig .tc := ⟨.hbm, 19, rfl⟩
abbrev main_call3_v1 : Ref sig .tc := ⟨.hbm, 20, rfl⟩
abbrev main_call3_c_0 : Ref sig .tc := ⟨.hbm, 21, rfl⟩
abbrev main_call3_v2 : Ref sig .tc := ⟨.hbm, 22, rfl⟩
abbrev main_call3_v3 : Ref sig .tc := ⟨.hbm, 23, rfl⟩
abbrev main_call3_v4 : Ref sig .tc := ⟨.hbm, 24, rfl⟩
abbrev main_call3_v5 : Ref sig .tc := ⟨.hbm, 25, rfl⟩
abbrev main_call3_c_1 : Ref sig .tc := ⟨.hbm, 26, rfl⟩
abbrev main_call3_c_2 : Ref sig .tc := ⟨.hbm, 27, rfl⟩
abbrev main_call3_v6 : Ref sig .tc := ⟨.hbm, 28, rfl⟩
abbrev main_call3_v7 : Ref sig .tc := ⟨.hbm, 29, rfl⟩
abbrev main_call3_v8 : Ref sig .tc := ⟨.hbm, 30, rfl⟩
abbrev main_call3_v9 : Ref sig .tc := ⟨.hbm, 31, rfl⟩
abbrev main_call3_v10 : Ref sig .tc := ⟨.hbm, 32, rfl⟩
abbrev main_call3_v11 : Ref sig .tc := ⟨.hbm, 33, rfl⟩
abbrev main_call3_c_3 : Ref sig .tc := ⟨.hbm, 34, rfl⟩
abbrev main_call3_v12 : Ref sig .tc := ⟨.hbm, 35, rfl⟩
abbrev main_call3_v13 : Ref sig .tc := ⟨.hbm, 36, rfl⟩
abbrev main_call3_cst : Ref sig .tc := ⟨.hbm, 37, rfl⟩
abbrev main_call3_v14 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call5_c : Ref sig .tc := ⟨.hbm, 43, rfl⟩
abbrev main_call5_v0 : Ref sig .tc := ⟨.hbm, 44, rfl⟩
abbrev main_call5_v1 : Ref sig .tc := ⟨.hbm, 45, rfl⟩
abbrev main_call5_c_0 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_call5_v5 : Ref sig .tc := ⟨.hbm, 50, rfl⟩
abbrev main_call5_c_1 : Ref sig .tc := ⟨.hbm, 51, rfl⟩
abbrev main_call5_c_2 : Ref sig .tc := ⟨.hbm, 52, rfl⟩
abbrev main_call5_v6 : Ref sig .tc := ⟨.hbm, 53, rfl⟩
abbrev main_call5_v7 : Ref sig .tc := ⟨.hbm, 54, rfl⟩
abbrev main_call5_v8 : Ref sig .tc := ⟨.hbm, 55, rfl⟩
abbrev main_call5_v9 : Ref sig .tc := ⟨.hbm, 56, rfl⟩
abbrev main_call5_v10 : Ref sig .tc := ⟨.hbm, 57, rfl⟩
abbrev main_call5_v11 : Ref sig .tc := ⟨.hbm, 58, rfl⟩
abbrev main_call5_c_3 : Ref sig .tc := ⟨.hbm, 59, rfl⟩
abbrev main_call5_v12 : Ref sig .tc := ⟨.hbm, 60, rfl⟩
abbrev main_call5_v13 : Ref sig .tc := ⟨.hbm, 61, rfl⟩
abbrev main_call5_cst : Ref sig .tc := ⟨.hbm, 62, rfl⟩
abbrev main_call5_v14 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_cst_2 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_4 : Ref sig .tc := ⟨.hbm, 78, rfl⟩
abbrev main_v23 : Ref sig .tc := ⟨.hbm, 79, rfl⟩
abbrev main_v24 : Ref sig .tc := ⟨.hbm, 80, rfl⟩
abbrev main_cst_5 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_6 : Ref sig .tc := ⟨.hbm, 85, rfl⟩
abbrev main_v28 : Ref sig .tc := ⟨.hbm, 86, rfl⟩
abbrev main_v29 : Ref sig .tc := ⟨.hbm, 87, rfl⟩
abbrev main_cst_7 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_cst_8 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_9 : Ref sig .tc := ⟨.hbm, 97, rfl⟩
abbrev main_v37 : Ref sig .tc := ⟨.hbm, 98, rfl⟩
abbrev main_v38 : Ref sig .tc := ⟨.hbm, 99, rfl⟩
abbrev main_cst_10 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_11 : Ref sig .tc := ⟨.hbm, 105, rfl⟩
abbrev main_v43 : Ref sig .tc := ⟨.hbm, 106, rfl⟩
abbrev main_cst_12 : Ref sig .tc := ⟨.hbm, 107, rfl⟩
abbrev main_v44 : Ref sig .tc := ⟨.hbm, 108, rfl⟩
abbrev main_v45 : Ref sig .tc := ⟨.hbm, 109, rfl⟩
abbrev main_cst_13 : Ref sig .tc := ⟨.hbm, 110, rfl⟩
abbrev main_v46 : Ref sig .tc := ⟨.hbm, 111, rfl⟩
abbrev main_v47 : Ref sig .tc := ⟨.hbm, 112, rfl⟩
abbrev main_cst_14 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_15 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_cst_16 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_cst_17 : Ref sig .tc := ⟨.hbm, 144, rfl⟩
abbrev main_cst_18 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_v76 : Ref sig .tc := ⟨.hbm, 151, rfl⟩
abbrev main_cst_19 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_cst_20 : Ref sig .tc := ⟨.hbm, 157, rfl⟩
abbrev main_v81 : Ref sig .tc := ⟨.hbm, 158, rfl⟩
abbrev main_v82 : Ref sig .tc := ⟨.hbm, 159, rfl⟩
abbrev main_cst_21 : Ref sig .tc := ⟨.hbm, 160, rfl⟩
abbrev main_v83 : Ref sig .tc := ⟨.hbm, 161, rfl⟩
abbrev main_v84 : Ref sig .tc := ⟨.hbm, 162, rfl⟩
abbrev main_cst_22 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_cst_23 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_cst_24 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_cst_25 : Ref sig .tc := ⟨.hbm, 175, rfl⟩
abbrev main_call7_v0 : Ref sig .tc := ⟨.hbm, 176, rfl⟩
abbrev main_call7_v1 : Ref sig .tc := ⟨.hbm, 177, rfl⟩
abbrev main_v94 : Ref sig .tc := ⟨.hbm, 178, rfl⟩
abbrev main_cst_26 : Ref sig .tc := ⟨.hbm, 179, rfl⟩
abbrev main_v95 : Ref sig .tc := ⟨.hbm, 180, rfl⟩
abbrev main_v96 : Ref sig .tc := ⟨.hbm, 181, rfl⟩

abbrev nD : Nat := 1
abbrev τ : Topo := Topo.v7x

variable {F : FTy → Type} [FloatOps F]
-- ==== Proof.Frames.lean ====
/- The claims that each program runs, leaves its arguments as they were and ends with every semaphore at zero, and the
   claim that the named constants of the idealized kernel are what their names say. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.LambdaLoss

open Idealize.ShloMosaic Idealize.SL.Sem

/-- The kernel as written, on words: it runs, keeps its arguments and ends quiet. -/
theorem frame_kernel : Cert.quiescent_Kernel := fun m ρ _ => Cert.Kernel.Gen.frame m ρ

/-- The idealized kernel: it runs, keeps its arguments and ends quiet. -/
theorem frame_kernelIdeal : Cert.quiescent_KernelIdeal := fun m ρ _ => Cert.KernelIdeal.Gen.frame m ρ

/-- The idealized reference: it runs, keeps its arguments and ends quiet. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants, 1/ln 2 and -log2 of the literal 1e-10, stand for the literals they replace. -/
theorem preserves : Cert.preserves_Kernel_KernelIdeal :=
  ⟨IdealRules.named_const.statement Cert.KernelIdeal.κ "log2e" .f32 0x3FB8AA3B#32 _ rfl,
    IdealRules.named_const.statement Cert.KernelIdeal.κ "neg_log2_eps" .f32 0x4204E08B#32 _ rfl⟩

end Cert.LambdaLoss

end
-- ==== Proof.RealLoss.lean ====
/- The loss over the reals: the two ways of writing one row of it, and that they agree.

   One way keeps the documents where they are and counts, for each, how many come before it; the other sorts them and
   reads the place off the position. Also here: the ideal gain of a row as a sum over sorted labels and as a sum of
   prefix sums, one per grade. -/
module

public import Idealize.ShloMosaic.Lib.Pointwise
public import Mathlib.Analysis.SpecialFunctions.Pow.Real
public import Mathlib.Order.Interval.Finset.Fin
public import Mathlib.Tactic.IntervalCases

@[expose] public section

noncomputable section

namespace Cert.LambdaLoss

open Finset

/-- The guard of the programs, the float32 nearest to 1e-10. -/
def eps : ℝ := 14411519 / 144115188075855872

/-- The guard is positive. -/
theorem eps_pos : 0 < eps := by unfold eps; norm_num

/-- The guard is below one. -/
theorem eps_lt_one : eps < 1 := by unfold eps; norm_num

/-- The logarithm to base two. -/
def lg (x : ℝ) : ℝ := Real.log x / Real.log 2

/-- The logarithm of two is positive. -/
theorem log_two_pos : 0 < Real.log 2 := Real.log_pos (by norm_num)

/-- The base-two logarithm is monotone. -/
theorem lg_le_lg {x y : ℝ} (hx : 0 < x) (h : x ≤ y) : lg x ≤ lg y := by
  unfold lg
  exact div_le_div_of_nonneg_right (Real.log_le_log hx h) log_two_pos.le

/-- The base-two logarithm of one is zero. -/
theorem lg_one : lg 1 = 0 := by simp [lg]

/-- The base-two logarithm of two is one. -/
theorem lg_two : lg 2 = 1 := div_self log_two_pos.ne'

/-- The discount of position `k`, counted from zero: one over the logarithm of `k + 2`. -/
def disc (k : ℕ) : ℝ := 1 / lg ((k : ℝ) + 2)

/-- The logarithm that discounts a position is at least one. -/
theorem one_le_lg (k : ℕ) : 1 ≤ lg ((k : ℝ) + 2) := by
  rw [← lg_two]; exact lg_le_lg (by norm_num) (by linarith [k.cast_nonneg (α := ℝ)])

/-- A discount is positive. -/
theorem disc_pos (k : ℕ) : 0 < disc k := by
  have := one_le_lg k; unfold disc; positivity

/-- A discount is at most one. -/
theorem disc_le_one (k : ℕ) : disc k ≤ 1 := by
  have := one_le_lg k; unfold disc; rw [div_le_one (by linarith)]; exact this

/-- The discount of the first position is one. -/
theorem disc_zero : disc 0 = 1 := by simp [disc, lg_two]

/-- Two discounts differ by at most one. -/
theorem abs_disc_sub_le (i j : ℕ) : |disc i - disc j| ≤ 1 := by
  rw [abs_le]
  constructor <;> linarith [disc_pos i, disc_pos j, disc_le_one i, disc_le_one j]

variable {n : ℕ}

/-- Document `b` comes before document `a`: its score is higher, or equal and it stands earlier. -/
def Before (p : Fin n → ℝ) (b a : Fin n) : Prop := p a < p b ∨ (p b = p a ∧ b < a)

open Classical in
/-- How many documents come before `a`. -/
def rank (p : Fin n → ℝ) (a : Fin n) : ℕ := (univ.filter fun b => Before p b a).card

/-- Of two documents at most one comes before the other. -/
theorem Before.asymm {p : Fin n → ℝ} {a b : Fin n} (h : Before p a b) : ¬ Before p b a := by
  unfold Before at *
  rintro (h' | ⟨h1, h2⟩) <;> rcases h with h | ⟨h3, h4⟩
  · exact absurd h (not_lt.mpr h'.le)
  · exact absurd h' (by rw [h3]; exact lt_irrefl _)
  · exact absurd h (by rw [h1]; exact lt_irrefl _)
  · exact absurd h2 (not_lt.mpr h4.le)

/-- No document comes before itself. -/
theorem Before.irrefl {p : Fin n → ℝ} {a : Fin n} : ¬ Before p a a := by
  unfold Before; simp

/-- After sorting, the number of documents before the one at position `i` is `i`. -/
theorem rank_perm (p : Fin n → ℝ) (σ : Equiv.Perm (Fin n)) (hσ : ∀ i j, i < j → Before p (σ i) (σ j)) (i : Fin n) :
    rank p (σ i) = i.val := by
  classical
  unfold rank
  have : (univ.filter fun b => Before p b (σ i)) = (univ.filter fun k : Fin n => k < i).map σ.toEmbedding := by
    ext b
    simp only [mem_filter, mem_univ, true_and, mem_map, Equiv.coe_toEmbedding]
    constructor
    · intro hb
      refine ⟨σ.symm b, ?_, by simp⟩
      by_contra hlt
      rcases eq_or_lt_of_le (not_lt.mp hlt) with he | hl
      · rw [he] at hb; simp only [Equiv.apply_symm_apply] at hb; exact Before.irrefl hb
      · have := hσ _ _ hl
        rw [Equiv.apply_symm_apply] at this
        exact this.asymm hb
    · rintro ⟨k, hk, rfl⟩; exact hσ _ _ hk
  rw [this, card_map]
  have h2 : (univ.filter fun k : Fin n => k < i) = Finset.Iio i := by ext; simp
  rw [h2, Fin.card_Iio]

/-! ## The ideal gain -/

/-- How many documents have a label of at least `v`. -/
def count (t : Fin n → ℕ) (v : ℕ) : ℕ := (univ.filter fun a => v ≤ t a).card

/-- The sum of the discounts of the first `c` positions. -/
def prefixSum (n c : ℕ) : ℝ := ∑ i : Fin n, if i.val < c then disc i else 0

/-- The ideal gain of a row, a prefix sum of discounts per grade. -/
def ideal (t : Fin n → ℕ) : ℝ :=
  prefixSum n (count t 1) + 2 * prefixSum n (count t 2) + 4 * prefixSum n (count t 3) + 8 * prefixSum n (count t 4)

/-- In a row sorted from the highest label down, the labels of at least `v` are exactly the first `count v`. -/
theorem le_sorted_iff (u : Fin n → ℕ) (hu : ∀ i j, i < j → u j ≤ u i) (v : ℕ) (i : Fin n) :
    v ≤ u i ↔ i.val < count u v := by
  have hanti : ∀ i j, i ≤ j → u j ≤ u i := fun i j h => by
    rcases eq_or_lt_of_le h with rfl | h
    · exact le_rfl
    · exact hu i j h
  unfold count
  constructor
  · intro h
    have : Finset.Iic i ⊆ univ.filter fun a => v ≤ u a := by
      intro k hk
      simp only [mem_filter, mem_univ, true_and]
      exact h.trans (hanti k i (Finset.mem_Iic.mp hk))
    have := card_le_card this
    rw [Fin.card_Iic] at this
    omega
  · intro h
    by_contra hv
    have : (univ.filter fun a => v ≤ u a) ⊆ Finset.Iio i := by
      intro k hk
      simp only [mem_filter, mem_univ, true_and] at hk
      rw [Finset.mem_Iio]
      by_contra hki
      exact hv (hk.trans (hanti i k (not_lt.mp hki)))
    have := card_le_card this
    rw [Fin.card_Iio] at this
    omega

/-- Counting the documents labelled at least `v` does not depend on their order. -/
theorem count_perm (t : Fin n → ℕ) (τ : Equiv.Perm (Fin n)) (v : ℕ) : count (t ∘ τ) v = count t v := by
  unfold count
  refine Finset.card_bij (fun a _ => τ a) ?_ ?_ ?_
  · intro a ha; simpa using ha
  · intro a _ b _ h; exact τ.injective h
  · intro b hb; exact ⟨τ.symm b, by simpa using hb, by simp⟩

/-- The sorted labels' gains, discounted and summed, are the ideal gain. -/
theorem sum_sorted (t u : Fin n → ℕ) (τ : Equiv.Perm (Fin n)) (h : u = t ∘ τ) (hu : ∀ i j, i < j → u j ≤ u i)
    (ht : ∀ a, t a ≤ 4) : ∑ i : Fin n, ((2 : ℝ) ^ u i - 1) / lg ((i.val : ℝ) + 2) = ideal t := by
  have hc : ∀ v, count t v = count u v := fun v => by rw [h, count_perm]
  unfold ideal prefixSum
  simp only [hc, Finset.mul_sum, ← Finset.sum_add_distrib, ← le_sorted_iff u hu]
  refine Finset.sum_congr rfl fun i _ => ?_
  have h4 : u i ≤ 4 := by rw [h]; exact ht _
  have hd : ((2 : ℝ) ^ u i - 1) / lg ((i.val : ℝ) + 2) = ((2 : ℝ) ^ u i - 1) * disc i := by
    unfold disc; ring
  rw [hd]
  generalize u i = k at *
  interval_cases k <;> norm_num <;> ring

/-- The ideal gain is at least the gain of any one document. -/
theorem gain_le_ideal (t : Fin n → ℕ) (ht : ∀ a, t a ≤ 4) (a : Fin n) : (2 : ℝ) ^ t a - 1 ≤ ideal t := by
  have hp0 : ∀ c, 0 ≤ prefixSum n c := fun c =>
    Finset.sum_nonneg fun i _ => by split_ifs; exacts [(disc_pos _).le, le_rfl]
  have hn : 0 < n := a.pos
  have hp1 : ∀ v, v ≤ t a → 1 ≤ prefixSum n (count t v) := fun v hv => by
    have hpos : 0 < count t v := Finset.card_pos.mpr ⟨a, by simpa using hv⟩
    have := Finset.single_le_sum (f := fun i : Fin n => if i.val < count t v then disc i else 0)
      (fun i _ => by split_ifs; exacts [(disc_pos _).le, le_rfl]) (Finset.mem_univ (⟨0, hn⟩ : Fin n))
    unfold prefixSum
    simpa [hpos, disc_zero] using this
  unfold ideal
  have h4 := ht a
  have e1 := hp0 (count t 1); have e2 := hp0 (count t 2); have e3 := hp0 (count t 3); have e4 := hp0 (count t 4)
  have f1 := hp1 1; have f2 := hp1 2; have f3 := hp1 3; have f4 := hp1 4
  generalize t a = k at *
  interval_cases k <;> norm_num at * <;> linarith

/-- The ideal gain is not negative. -/
theorem ideal_nonneg (t : Fin n → ℕ) : 0 ≤ ideal t := by
  have hp0 : ∀ c, 0 ≤ prefixSum n c := fun c =>
    Finset.sum_nonneg fun i _ => by split_ifs; exacts [(disc_pos _).le, le_rfl]
  unfold ideal
  linarith [hp0 (count t 1), hp0 (count t 2), hp0 (count t 3), hp0 (count t 4)]

/-! ## One pair -/

/-- The weight of a pair as counted in place: the gap of the discounts times the gap of the gains, its sign kept. -/
def gapWeight (M : ℝ) (p : Fin n → ℝ) (t : Fin n → ℕ) (a b : Fin n) : ℝ :=
  |disc (rank p a) - disc (rank p b)| * (((2 : ℝ) ^ t a - 1) * (1 / M) - ((2 : ℝ) ^ t b - 1) * (1 / M))

/-- One pair in place: the weight times the pair's logistic loss, capped, and nothing for a pair in the wrong order. -/
def placeTerm (M : ℝ) (p : Fin n → ℝ) (t : Fin n → ℕ) (a b : Fin n) : ℝ :=
  max (gapWeight M p t a b * min (lg (1 + Real.exp (p b - p a))) (-lg eps)) 0

/-- One pair of the sorted row: the logarithm of the weighted probability, for a pair in the right order. -/
def sortedTerm (M : ℝ) (P : Fin n → ℝ) (T : Fin n → ℕ) (i j : Fin n) : ℝ :=
  if T j < T i then
    lg (max (max (1 / (1 + Real.exp (-(P i - P j)))) eps
      ^ (|disc i - disc j| * |((2 : ℝ) ^ T i - 1) / M - ((2 : ℝ) ^ T j - 1) / M|)) eps)
  else 0

/-- The logarithm of the guard is negative. -/
theorem lg_eps_neg : lg eps < 0 := div_neg_of_neg_of_pos (Real.log_neg eps_pos eps_lt_one) log_two_pos

/-- The logarithm of a power. -/
theorem lg_rpow {x : ℝ} (hx : 0 < x) (w : ℝ) : lg (x ^ w) = w * lg x := by
  unfold lg; rw [Real.log_rpow hx]; ring

/-- The logarithm of the larger of two positive numbers is the larger of their logarithms. -/
theorem lg_max {x y : ℝ} (hx : 0 < x) (hy : 0 < y) : lg (max x y) = max (lg x) (lg y) := by
  rcases le_total x y with h | h
  · rw [max_eq_right h, max_eq_right (lg_le_lg hx h)]
  · rw [max_eq_left h, max_eq_left (lg_le_lg hy h)]

/-- The logarithm of the capped probability is the capped logistic loss, negated. -/
theorem lg_sigmoid (d : ℝ) : lg (max (1 / (1 + Real.exp (-d))) eps) = -min (lg (1 + Real.exp (-d))) (-lg eps) := by
  have he : 0 < 1 + Real.exp (-d) := by positivity
  rw [lg_max (by positivity) eps_pos]
  have : lg (1 / (1 + Real.exp (-d))) = -lg (1 + Real.exp (-d)) := by
    unfold lg; rw [one_div, Real.log_inv]; ring
  rw [this, ← max_neg_neg, neg_neg]

/-- Of a pair the two ways of writing it agree, up to the sign. -/
theorem placeTerm_eq (M : ℝ) (hM : 0 < M) (p : Fin n → ℝ) (t : Fin n → ℕ) (ht : ∀ a, (2 : ℝ) ^ t a - 1 ≤ M)
    (σ : Equiv.Perm (Fin n)) (hσ : ∀ i j, i < j → Before p (σ i) (σ j)) (i j : Fin n) :
    placeTerm M p t (σ i) (σ j) = -sortedTerm M (p ∘ σ) (t ∘ σ) i j := by
  unfold placeTerm sortedTerm gapWeight
  simp only [rank_perm p σ hσ, Function.comp]
  have hcap : 0 ≤ min (lg (1 + Real.exp (p (σ j) - p (σ i)))) (-lg eps) := by
    refine le_min ?_ (by linarith [lg_eps_neg])
    rw [← lg_one]
    exact lg_le_lg one_pos (by linarith [Real.exp_pos (p (σ j) - p (σ i))])
  have hmono : ∀ {a b : ℕ}, a ≤ b → (2 : ℝ) ^ a ≤ 2 ^ b := fun h => pow_le_pow_right₀ (by norm_num) h
  have hone : ∀ a : ℕ, (1 : ℝ) ≤ 2 ^ a := fun a => one_le_pow₀ (by norm_num)
  have hi := ht (σ i)
  have hj := ht (σ j)
  have hdabs := abs_nonneg (disc i.val - disc j.val)
  have hgap : ((2 : ℝ) ^ t (σ i) - 1) * (1 / M) - (2 ^ t (σ j) - 1) * (1 / M) = (2 ^ t (σ i) - 2 ^ t (σ j)) / M := by ring
  have hgap' : ((2 : ℝ) ^ t (σ i) - 1) / M - (2 ^ t (σ j) - 1) / M = (2 ^ t (σ i) - 2 ^ t (σ j)) / M := by ring
  rw [hgap, hgap']
  split_ifs with hlt
  · have h0 : 0 ≤ ((2 : ℝ) ^ t (σ i) - 2 ^ t (σ j)) / M :=
      div_nonneg (by linarith [hmono hlt.le]) hM.le
    have h1 : ((2 : ℝ) ^ t (σ i) - 2 ^ t (σ j)) / M ≤ 1 := by
      rw [div_le_one hM]; linarith [hone (t (σ j))]
    rw [abs_of_nonneg h0]
    set w := |disc i.val - disc j.val| * (((2 : ℝ) ^ t (σ i) - 2 ^ t (σ j)) / M) with hw
    have hw0 : 0 ≤ w := mul_nonneg hdabs h0
    have hw1 : w ≤ 1 := mul_le_one₀ (abs_disc_sub_le _ _) h0 h1
    have hs : 0 < max (1 / (1 + Real.exp (-(p (σ i) - p (σ j))))) eps := lt_max_of_lt_right eps_pos
    rw [lg_max (Real.rpow_pos_of_pos hs _) eps_pos, lg_rpow hs, lg_sigmoid, neg_sub]
    rw [max_eq_left (mul_nonneg hw0 hcap), max_eq_left, mul_neg, neg_neg]
    have hle : min (lg (1 + Real.exp (p (σ j) - p (σ i)))) (-lg eps) ≤ -lg eps := min_le_right _ _
    nlinarith
  · rw [neg_zero, max_eq_right]
    refine mul_nonpos_of_nonpos_of_nonneg (mul_nonpos_of_nonneg_of_nonpos hdabs ?_) hcap
    exact div_nonpos_of_nonpos_of_nonneg (by linarith [hmono (not_lt.mp hlt)]) hM.le

/-- Of a row the two ways of writing it agree: the pairs in place sum to minus the sum over the sorted pairs. -/
theorem row_eq (M : ℝ) (hM : 0 < M) (p : Fin n → ℝ) (t : Fin n → ℕ) (ht : ∀ a, (2 : ℝ) ^ t a - 1 ≤ M)
    (σ : Equiv.Perm (Fin n)) (hσ : ∀ i j, i < j → Before p (σ i) (σ j)) :
    ∑ a, ∑ b, placeTerm M p t a b = -∑ i, ∑ j, sortedTerm M (p ∘ σ) (t ∘ σ) i j := by
  rw [← Equiv.sum_comp σ fun a => ∑ b, placeTerm M p t a b, ← Finset.sum_neg_distrib]
  refine Finset.sum_congr rfl fun i _ => ?_
  rw [← Equiv.sum_comp σ fun b => placeTerm M p t (σ i) b, ← Finset.sum_neg_distrib]
  exact Finset.sum_congr rfl fun j _ => placeTerm_eq M hM p t ht σ hσ i j

end Cert.LambdaLoss

end
-- ==== Proof.Coe.lean ====
/- Real numbers read as ideal numbers: how the operations of the programs act on them, what the literals are, and what
   the named constants stand for. -/
module

public import proofs.«01_k».proof.KernelIdeal
public import proofs.«01_k».proof.Proof.RealLoss

@[expose] public section

noncomputable section

namespace Cert.LambdaLoss

open Idealize.ShloMosaic Idealize.SL.Sem

/-- The larger of two reals is the same among the extended reals. -/
theorem coe_max (x y : ℝ) : max (x : EReal) y = ((max x y : ℝ) : EReal) := (EReal.coe_strictMono.monotone.map_max).symm

/-- The smaller of two reals is the same among the extended reals. -/
theorem coe_min (x y : ℝ) : min (x : EReal) y = ((min x y : ℝ) : EReal) := (EReal.coe_strictMono.monotone.map_min).symm

/-- The larger of a real and its negation is its absolute value. -/
theorem coe_abs (x : ℝ) : max (x : EReal) (-(x : EReal)) = ((|x| : ℝ) : EReal) := by
  rw [← EReal.coe_neg, coe_max]; rfl

/-- A finite sum of reals is the same among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A choice between two reals is the same among the extended reals. -/
theorem coe_ite (c : Prop) [Decidable c] (x y : ℝ) : (if c then (x : EReal) else y) = ((if c then x else y : ℝ) : EReal) := by
  split <;> rfl

/-- A quotient of reals with a nonzero divisor is the same among the extended reals. -/
theorem div_coe_coe {y : ℝ} (hy : y ≠ 0) (x : ℝ) : Ideal.div (x : EReal) y = ((x / y : ℝ) : EReal) := by
  rw [Ideal.div_coe hy, ← EReal.coe_mul, one_div, div_eq_mul_inv]

/-- The logarithm of a positive real is the real logarithm. -/
theorem log_coe_pos {x : ℝ} (hx : 0 < x) : Ideal.log (x : EReal) = ((Real.log x : ℝ) : EReal) := by
  rw [Ideal.log_coe, if_neg (not_le.mpr hx)]

/-- Two to the power of a natural number. -/
theorem exp2_natCast (n : ℕ) : Ideal.exp2 (((n : ℝ) : ℝ) : EReal) = (((2 : ℝ) ^ n : ℝ) : EReal) := by
  rw [Ideal.exp2_coe]; congr 1; exact Real.rpow_natCast 2 n

/-- Two to the power of a number divided by the logarithm of two is its exponential. -/
theorem exp2_mul_inv (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  rw [mul_comm x, ← mul_assoc, mul_inv_cancel₀ log_two_pos.ne', one_mul]

/-- The natural logarithm over the logarithm of two is the logarithm to base two. -/
theorem log_mul_inv (x : ℝ) : Real.log x * (Real.log 2)⁻¹ = lg x := by unfold lg; rw [div_eq_mul_inv]

/-! ## The literals -/

/-- The literal zero. -/
theorem lit_zero : Ideal.ofBits .f32 0x00000000#32 = ((0 : ℝ) : EReal) := by simp
/-- The literal one. -/
theorem lit_one : Ideal.ofBits .f32 0x3F800000#32 = ((1 : ℝ) : EReal) := by
  simp [Ideal.ofBits, Ideal.ieee, -EReal.coe_mul]; norm_num
/-- The literal minus one. -/
theorem lit_neg_one : Ideal.ofBits .f32 0xBF800000#32 = ((-1 : ℝ) : EReal) := by
  simp [Ideal.ofBits, Ideal.ieee, -EReal.coe_mul]; norm_num
/-- The literal two. -/
theorem lit_two : Ideal.ofBits .f32 0x40000000#32 = ((2 : ℝ) : EReal) := by
  simp [Ideal.ofBits, Ideal.ieee, -EReal.coe_mul]; norm_num
/-- The literal three. -/
theorem lit_three : Ideal.ofBits .f32 0x40400000#32 = ((3 : ℝ) : EReal) := by
  simp [Ideal.ofBits, Ideal.ieee, -EReal.coe_mul]; norm_num
/-- The literal four. -/
theorem lit_four : Ideal.ofBits .f32 0x40800000#32 = ((4 : ℝ) : EReal) := by
  simp [Ideal.ofBits, Ideal.ieee, -EReal.coe_mul]; norm_num
/-- The literal eight. -/
theorem lit_eight : Ideal.ofBits .f32 0x41000000#32 = ((8 : ℝ) : EReal) := by
  simp [Ideal.ofBits, Ideal.ieee, -EReal.coe_mul]; norm_num
/-- The literal 1e-10 is the rational number `eps`. -/
theorem lit_eps : Ideal.ofBits .f32 0x2EDBE6FF#32 = ((eps : ℝ) : EReal) := by
  unfold eps; simp [Ideal.ofBits, Ideal.ieee, -EReal.coe_mul]; norm_num

/-! ## The named constants -/

/-- The named constant `log2e` is one over the logarithm of two. -/
theorem named_log2e : Named.named (F := Ideal) (φ := .f32) Cert.KernelIdeal.κ "log2e" 0x3FB8AA3B#32 = (((Real.log 2)⁻¹ : ℝ) : EReal) :=
  IdealRules.named_const.ideal_named_scalar _ _ _ _ rfl

/-- The named constant `neg_log2_eps` is minus the base-two logarithm of `eps`. -/
theorem named_neg_log2_eps :
    Named.named (F := Ideal) (φ := .f32) Cert.KernelIdeal.κ "neg_log2_eps" 0x4204E08B#32 = ((-lg eps : ℝ) : EReal) := by
  rw [← log_mul_inv]; exact IdealRules.named_const.ideal_named_scalar _ _ _ _ rfl

/-- The discount as the programs write it. -/
theorem disc_eq (n : ℕ) :
    Ideal.div 1 (Ideal.log (((n : ℝ) : EReal) + ((2 : ℝ) : EReal)) * (((Real.log 2)⁻¹ : ℝ) : EReal)) = ((disc n : ℝ) : EReal) := by
  have h1 := one_le_lg n
  rw [← EReal.coe_add, log_coe_pos (by positivity), ← EReal.coe_mul, log_mul_inv, ← EReal.coe_one, div_coe_coe (by linarith)]
  rfl

end Cert.LambdaLoss
-- ==== Proof.KernelBlock.lean ====
/- What one grid step of the kernel writes: the sum over its 64 rows of the pair terms of the row. -/
module

public import proofs.«01_k».proof.Proof.Gen.KernelIdeal.Frame
public import proofs.«01_k».proof.Proof.Coe
public import Idealize.ShloMosaic.Lib.Pointwise

@[expose] public section

set_option maxRecDepth 16384

noncomputable section

namespace Cert.LambdaLoss

open Idealize.ShloMosaic Idealize.ShloMosaic.WordCmp Idealize.SL.Sem Cert.KernelIdeal Cert.KernelIdeal.Gen

/-- A sum of zeros and ones counts. -/
theorem sum_indicator {n : ℕ} (q : Fin n → Prop) [DecidablePred q] :
    (∑ x, if q x then (1 : EReal) else 0) = (((Finset.univ.filter q).card : ℝ) : EReal) := by
  rw [← Finset.sum_boole, ← coe_sum]
  refine Finset.sum_congr rfl fun x _ => ?_
  split <;> simp

/-- The number of a document as the kernel makes it. -/
theorem sitofp_ofNat (k : ℕ) (hk : k < 2 ^ 31) :
    FloatOps.sitofp (F := Ideal) .f32 (BitVec.ofNat 32 k) = ((k : ℝ) : EReal) := by
  show (((BitVec.ofNat 32 k).toInt : ℝ) : EReal) = _
  rw [toInt_ofNat_of_lt (by omega)]; simp

/-- Which of two scores scaled by one over the logarithm of two is the larger. -/
theorem scaled_lt (x y : ℝ) : ((x * (Real.log 2)⁻¹ : ℝ) : EReal) < ((y * (Real.log 2)⁻¹ : ℝ) : EReal) ↔ x < y := by
  rw [EReal.coe_lt_coe_iff, mul_lt_mul_iff_left₀ (inv_pos.mpr log_two_pos)]

/-- Two scores scaled by one over the logarithm of two are equal exactly when the scores are. -/
theorem scaled_eq (x y : ℝ) : ((x * (Real.log 2)⁻¹ : ℝ) : EReal) = ((y * (Real.log 2)⁻¹ : ℝ) : EReal) ↔ x = y := by
  rw [EReal.coe_eq_coe_iff]
  exact mul_left_inj' (inv_ne_zero log_two_pos.ne')

variable {x0 : FVec Ideal S64x1x200 .f32} {x1 : FVec Ideal S64x1x200 .f32} {x2 : FVec Ideal S1x200x64 .f32}
  {x3 : FVec Ideal S1x200x64 .f32} {p : Fin 64 → Fin 200 → ℝ} {t : Fin 64 → Fin 200 → ℕ}

/-- The scores of the block, scaled. -/
theorem pay1_eq (h0 : ∀ r k, x0 (ix3 r 0 k) = ((p r k : ℝ) : EReal)) (r : Fin 64) (k : Fin 200) :
    k0_pay1 (F := Ideal) x0 (ix3 r 0 k) = ((p r k * (Real.log 2)⁻¹ : ℝ) : EReal) := by
  pointwise [k0_pay1]
  rw [h0, named_log2e, EReal.coe_mul]

/-- The same scores from the transposed block. -/
theorem pay3_eq (h2 : ∀ r k, x2 (ix3 0 k r) = ((p r k : ℝ) : EReal)) (r : Fin 64) (k : Fin 200) :
    k0_pay3 (F := Ideal) x2 (ix3 r k 0) = ((p r k * (Real.log 2)⁻¹ : ℝ) : EReal) := by
  pointwise [k0_pay3]
  rw [h2, named_log2e, EReal.coe_mul]

/-- The discount of a document, from the number of documents before it. -/
theorem pay7_eq (h0 : ∀ r k, x0 (ix3 r 0 k) = ((p r k : ℝ) : EReal))
    (h2 : ∀ r k, x2 (ix3 0 k r) = ((p r k : ℝ) : EReal)) (r : Fin 64) (a : Fin 200) :
    k0_pay7 (F := Ideal) (k0_pay6 x0 x2) (Named.named κ "log2e" 0x3FB8AA3B#32) (ix3 r a 0) =
      ((disc (rank (p r) a) : ℝ) : EReal) := by
  classical
  pointwise [k0_pay7, k0_pay6, k0_pay5]
  rw [← disc_eq, named_log2e, lit_two]
  congr 4
  rw [rank, ← sum_indicator]
  refine Finset.sum_congr rfl fun b _ => ?_
  have hb := b.isLt
  have ha := a.isLt
  rw [pay1_eq h0, pay3_eq h2, cmpi_slt_ofNat (by omega) (by omega), select_ofBool]
  simp only [scaled_lt, scaled_eq, decide_eq_true_eq, Before, Fin.lt_def]
  by_cases h : p r a < p r b <;> by_cases h' : p r b = p r a <;> by_cases h'' : b.val < a.val <;> simp [h, h', h'']

/-- The same discount along the other axis. -/
theorem pay8_eq (h0 : ∀ r k, x0 (ix3 r 0 k) = ((p r k : ℝ) : EReal))
    (h2 : ∀ r k, x2 (ix3 0 k r) = ((p r k : ℝ) : EReal)) (r : Fin 64) (a : Fin 200) :
    k0_pay8 (F := Ideal) (k0_pay6 x0 x2) (Named.named κ "log2e" 0x3FB8AA3B#32) (ix3 r 0 a) =
      ((disc (rank (p r) a) : ℝ) : EReal) := by
  pointwise [k0_pay8]
  exact pay7_eq h0 h2 r a

/-- The number of a position. -/
theorem pay9_eq (k : Fin 200) : k0_pay9 (F := Ideal) (ix3 0 0 k) = (((k : ℕ) : ℝ) : EReal) := by
  have := k.isLt
  pointwise [k0_pay9]
  exact sitofp_ofNat _ (by omega)

/-- The discount of a position. -/
theorem pay10_eq (k : Fin 200) : k0_pay10 (F := Ideal) (ix3 0 0 k) = ((disc k : ℝ) : EReal) := by
  pointwise [k0_pay10]
  rw [pay9_eq, lit_two, named_log2e, disc_eq]

/-- The discount of a position that comes before the number of documents labelled at least `v`. -/
theorem masked_eq (u : Fin 200 → ℕ) (v : ℕ) (k : Fin 200) :
    (if (((k : ℕ) : ℝ) : EReal) < ∑ x, (if ((v : ℝ) : EReal) ≤ (((u x : ℕ) : ℝ) : EReal) then (1 : EReal) else 0)
      then ((disc k : ℝ) : EReal) else 0) = (((if k.val < count u v then disc k else 0 : ℝ)) : EReal) := by
  rw [sum_indicator]
  simp only [EReal.coe_le_coe_iff, Nat.cast_le, EReal.coe_lt_coe_iff, Nat.cast_lt]
  rw [← EReal.coe_zero, coe_ite]
  rfl

/-- The sum of the discounts of the positions before the number of documents labelled at least `v`. -/
theorem masked_sum_eq (u : Fin 200 → ℕ) (v : ℕ) :
    (∑ k : Fin 200, if (((k : ℕ) : ℝ) : EReal) < ∑ x, (if ((v : ℝ) : EReal) ≤ (((u x : ℕ) : ℝ) : EReal) then (1 : EReal) else 0)
      then ((disc k : ℝ) : EReal) else 0) = ((prefixSum 200 (count u v) : ℝ) : EReal) := by
  rw [Finset.sum_congr rfl fun k _ => masked_eq u v k, coe_sum]; rfl

variable {w : FVec Ideal S64x1x200 .f32}

/-- The guard and the sum of grade one. -/
theorem pay11_eq (hw : ∀ r k, w (ix3 r 0 k) = (((t r k : ℕ) : ℝ) : EReal)) (r : Fin 64) :
    k0_pay11 (F := Ideal) w (ix3 r 0 0) = ((eps + prefixSum 200 (count (t r) 1) : ℝ) : EReal) := by
  have h := masked_sum_eq (t r) 1
  rw [Nat.cast_one, EReal.coe_one] at h
  pointwise [k0_pay11]
  simp only [pay9_eq, pay10_eq, hw, lit_eps]
  rw [h, ← EReal.coe_add]

/-- The guard and the sums of the grades one to three. -/
theorem pay13_eq (hw : ∀ r k, w (ix3 r 0 k) = (((t r k : ℕ) : ℝ) : EReal)) (r : Fin 64) :
    k0_pay13 (F := Ideal) w k0_pay9 k0_pay10 (k0_pay11 w) (k0_pay12 w) (ix3 r 0 0) =
      ((eps + prefixSum 200 (count (t r) 1) + 2 * prefixSum 200 (count (t r) 2) + 4 * prefixSum 200 (count (t r) 3) : ℝ) : EReal) := by
  have h2 := masked_sum_eq (t r) 2
  have h3 := masked_sum_eq (t r) 3
  rw [Nat.cast_ofNat] at h2 h3
  pointwise [k0_pay13, k0_pay12]
  simp only [pay9_eq, pay10_eq, pay11_eq hw, hw, lit_two, lit_three, lit_four]
  rw [h2, h3]
  simp only [← EReal.coe_mul, ← EReal.coe_add]

/-- The sum of grade four. -/
theorem pay14_eq (hw : ∀ r k, w (ix3 r 0 k) = (((t r k : ℕ) : ℝ) : EReal)) (r : Fin 64) :
    k0_pay14 (F := Ideal) w k0_pay9 k0_pay10 (ix3 r 0 0) = ((prefixSum 200 (count (t r) 4) : ℝ) : EReal) := by
  have h4 := masked_sum_eq (t r) 4
  rw [Nat.cast_ofNat] at h4
  pointwise [k0_pay14]
  simp only [pay9_eq, pay10_eq, hw, lit_four]
  rw [h4]

/-- The ideal gain of a row, with its guard, from the sums of the grades. -/
theorem guarded_eq (u : Fin 200 → ℕ) :
    ((eps + prefixSum 200 (count u 1) + 2 * prefixSum 200 (count u 2) + 4 * prefixSum 200 (count u 3) : ℝ) : EReal) +
      ((8 : ℝ) : EReal) * ((prefixSum 200 (count u 4) : ℝ) : EReal) = ((eps + ideal u : ℝ) : EReal) := by
  rw [← EReal.coe_mul, ← EReal.coe_add]
  congr 1
  unfold ideal
  ring

/-- One pair of the block: the weight of the pair times its capped logistic loss. -/
theorem pair_eq (M : ℝ) (hM : 0 < M) (s : Fin 200 → ℝ) (u : Fin 200 → ℕ) (a b : Fin 200) :
    max (FloatOps.absf (F := Ideal) (φ := .f32) (((disc (rank s a) : ℝ) : EReal) - ((disc (rank s b) : ℝ) : EReal)) *
          ((FloatOps.exp2 (F := Ideal) (φ := .f32) (((u a : ℕ) : ℝ) : EReal) - 1) * Ideal.div 1 ((M : ℝ) : EReal) -
            (FloatOps.exp2 (F := Ideal) (φ := .f32) (((u b : ℕ) : ℝ) : EReal) - 1) * Ideal.div 1 ((M : ℝ) : EReal)) *
        min (Ideal.log (1 + FloatOps.exp2 (F := Ideal) (φ := .f32)
            (((s b * (Real.log 2)⁻¹ : ℝ) : EReal) - ((s a * (Real.log 2)⁻¹ : ℝ) : EReal))) * (((Real.log 2)⁻¹ : ℝ) : EReal))
          ((-lg eps : ℝ) : EReal)) 0 = ((placeTerm M s u a b : ℝ) : EReal) := by
  have e : ∀ x : EReal, FloatOps.exp2 (F := Ideal) (φ := .f32) x = Ideal.exp2 x := fun _ => rfl
  have ab : ∀ x : EReal, FloatOps.absf (F := Ideal) (φ := .f32) x = max x (-x) := fun _ => rfl
  have h1 : (0 : ℝ) < 1 + Real.exp (s b - s a) := by positivity
  simp only [e, ab]
  rw [← EReal.coe_sub (s b * _), ← sub_mul, exp2_mul_inv, exp2_natCast, exp2_natCast, ← EReal.coe_one,
    div_coe_coe hM.ne', ← EReal.coe_add, log_coe_pos h1, ← EReal.coe_mul, log_mul_inv, coe_min, ← EReal.coe_sub,
    coe_abs, ← EReal.coe_sub, ← EReal.coe_sub, ← EReal.coe_mul, ← EReal.coe_mul, ← EReal.coe_sub, ← EReal.coe_mul,
    ← EReal.coe_mul, ← EReal.coe_zero, coe_max]
  rfl

/-- What one grid step writes: the pair terms of its 64 rows, summed. -/
theorem block_eq (h0 : ∀ r k, x0 (ix3 r 0 k) = ((p r k : ℝ) : EReal))
    (h1 : ∀ r k, x1 (ix3 r 0 k) = (((t r k : ℕ) : ℝ) : EReal))
    (h2 : ∀ r k, x2 (ix3 0 k r) = ((p r k : ℝ) : EReal))
    (h3 : ∀ r k, x3 (ix3 0 k r) = (((t r k : ℕ) : ℝ) : EReal)) (hM : ∀ r, 0 < eps + ideal (t r)) (j : S1x1x1.Idx) :
    out0_4 (F := Ideal) x0 x1 x2 x3 j = ((∑ r, ∑ a, ∑ b, placeTerm (eps + ideal (t r)) (p r) (t r) a b : ℝ) : EReal) := by
  have hz : (![0, 0, 0] : Fin 3 → Nat) = fun _ => 0 := funext fun a => by fin_cases a <;> rfl
  have hw : ∀ r k, k0_pay2 (F := Ideal) x1 (ix3 r 0 k) = (((t r k : ℕ) : ℝ) : EReal) := fun r k => by
    pointwise [k0_pay2]; exact h1 r k
  have hp4 : ∀ r k, k0_pay4 (F := Ideal) x3 (ix3 r k 0) = (((t r k : ℕ) : ℝ) : EReal) := fun r k => by
    pointwise [k0_pay4]; exact h3 r k
  have hp5 : ∀ k, k0_pay5 (F := Ideal) (ix2 k 0) = 1 := fun k => by pointwise [k0_pay5]
  unfold out0_4 k0_pay16 k0_pay17 k0_pay18 k0_pay19 r0_0 r0_1 r0_2
  rw [View.canon_unit_zero hz, View.ld_unit_zero hz, View.ld_unit_zero hz, View.ld_unit_zero hz, View.ld_unit_zero hz]
  pointwise [k0_pay15]
  rw [Ideal.reduceAdd_total _ (by decide), sum_idx4]
  pointwise
  simp only [Finset.univ_unique, Finset.sum_singleton, Fin.default_eq_zero, pay1_eq h0, pay3_eq h2, hp4, hp5, hw,
    pay7_eq h0 h2, pay8_eq h0 h2, pay13_eq hw, pay14_eq hw, mul_one, lit_eight, guarded_eq]
  simp only [named_log2e, named_neg_log2_eps, pair_eq _ (hM _), coe_sum]

end Cert.LambdaLoss
-- ==== Proof.KernelRun.lean ====
/- What the kernel returns: the pair terms of all 1024 rows, summed. -/
module

public import proofs.«01_k».proof.Proof.KernelBlock
public import Idealize.ShloMosaic.Lib.Pipeline.ValueKit
public import Idealize.ShloMosaic.Lib.StableHlo.ReadAt

@[expose] public section

set_option maxRecDepth 16384

noncomputable section

namespace Cert.LambdaLoss

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Grid step `t` works on block `t` of every array. -/
theorem block_index : ∀ t : Fin grid0.N, win0_0.index t = ![t.val, 0, 0] ∧ win0_1.index t = ![t.val, 0, 0] ∧
    win0_2.index t = ![t.val, 0, 0] ∧ win0_3.index t = ![t.val, 0, 0] ∧ win0_4.index t = ![t.val, 0, 0] := by decide +kernel

/-- Row `r` of grid step `t`. -/
def row (t : Fin 16) (r : Fin 64) : Fin 1024 := ⟨t.val * 64 + r.val, by omega⟩

/-- The rows of all grid steps are the 1024 rows. -/
theorem sum_row (g : Fin 1024 → ℝ) : ∑ t, ∑ r, g (row t r) = ∑ b, g b := by
  rw [← Fintype.sum_prod_type']
  exact Fintype.sum_equiv (finProdFinEquiv (m := 16) (n := 64)) _ _ fun x => congrArg g (Fin.ext (by
    show x.1.val * 64 + x.2.val = x.2.val + 64 * x.1.val
    omega))

/-! ## The arrays before the launch -/

/-- The scores with an axis of size one put in: row `b`, document `k`. -/
theorem scores_eq (c : Dev nD) (b : Fin 1024) (k : Fin 200) :
    V m c main_call0_v1 (ix3 b 0 k) = m ((c : Thread nD τ).loc main_arg0) (ix2 b k) := by
  unfold V
  after_reads_at

/-- The labels as numbers with an axis of size one put in: row `b`, document `k`. -/
theorem labels_eq (c : Dev nD) (b : Fin 1024) (k : Fin 200) :
    V m c main_call0_v2 (ix3 b 0 k) = FloatOps.sitofp (F := Ideal) .f32 (m ((c : Thread nD τ).loc main_arg1) (ix2 b k)) := by
  unfold V
  after_reads_at

/-- The scores split into blocks of rows and transposed: block `t`, document `k`, row `r` of the block. -/
theorem scores_transposed_eq (c : Dev nD) (t : Fin 16) (r : Fin 64) (k : Fin 200) :
    V m c main_call0_v4 (ix3 t k r) = m ((c : Thread nD τ).loc main_arg0) (ix2 (row t r) k) := by
  unfold V
  after_reads_at
  rfl

/-- The labels as numbers split into blocks of rows and transposed: block `t`, document `k`, row `r` of the block. -/
theorem labels_transposed_eq (c : Dev nD) (t : Fin 16) (r : Fin 64) (k : Fin 200) :
    V m c main_call0_v6 (ix3 t k r) =
      FloatOps.sitofp (F := Ideal) .f32 (m ((c : Thread nD τ).loc main_arg1) (ix2 (row t r) k)) := by
  unfold V
  after_reads_at
  rfl

/-! ## The blocks -/

/-- The scores that step `t` reads are those of its rows. -/
theorem iblk0_eq (c : Dev nD) (t : Fin cfg0.N) (r : Fin 64) (k : Fin 200) :
    iblk m c 0 t (ix3 r 0 k) = m ((c : Thread nD τ).loc main_arg0) (ix2 (row t r) k) := by
  rw [← scores_eq m c]; unfold row; blk_ext [iblk, block_index t]

/-- The labels that step `t` reads are those of its rows. -/
theorem iblk1_eq (c : Dev nD) (t : Fin cfg0.N) (r : Fin 64) (k : Fin 200) :
    iblk m c 1 t (ix3 r 0 k) = FloatOps.sitofp (F := Ideal) .f32 (m ((c : Thread nD τ).loc main_arg1) (ix2 (row t r) k)) := by
  rw [← labels_eq m c]; unfold row; blk_ext [iblk, block_index t]

/-- The transposed scores that step `t` reads are those of its rows. -/
theorem iblk2_eq (c : Dev nD) (t : Fin cfg0.N) (r : Fin 64) (k : Fin 200) :
    iblk m c 2 t (ix3 0 k r) = m ((c : Thread nD τ).loc main_arg0) (ix2 (row t r) k) := by
  refine Eq.trans (b := V m c main_call0_v4 (ix3 t k r)) ?_ (scores_transposed_eq m c t r k)
  blk_ext [iblk, block_index t]

/-- The transposed labels that step `t` reads are those of its rows. -/
theorem iblk3_eq (c : Dev nD) (t : Fin cfg0.N) (r : Fin 64) (k : Fin 200) :
    iblk m c 3 t (ix3 0 k r) = FloatOps.sitofp (F := Ideal) .f32 (m ((c : Thread nD τ).loc main_arg1) (ix2 (row t r) k)) := by
  refine Eq.trans (b := V m c main_call0_v6 (ix3 t k r)) ?_ (labels_transposed_eq m c t r k)
  blk_ext [iblk, block_index t]

/-! ## The result -/

/-- The pair terms of one row, summed. -/
def rowSum (s : Fin 200 → ℝ) (u : Fin 200 → ℕ) : ℝ := ∑ a, ∑ b, placeTerm (eps + ideal u) s u a b

variable {m} {P : Fin 1024 → Fin 200 → ℝ} {T : Fin 1024 → Fin 200 → ℕ}

/-- The array that the launch writes: an entry for each grid step, the sum of its rows. -/
theorem partials_eq (c : Dev nD) (hP : ∀ b k, m ((c : Thread nD τ).loc main_arg0) (ix2 b k) = ((P b k : ℝ) : EReal))
    (hT : ∀ b k, FloatOps.sitofp (F := Ideal) .f32 (m ((c : Thread nD τ).loc main_arg1) (ix2 b k)) = (((T b k : ℕ) : ℝ) : EReal)) :
    (dats m 0 c).arrAt 4 cfg0.N =
      fun i : S16x1x1.Idx => ((∑ r, rowSum (P (row (i 0) r)) (T (row (i 0) r)) : ℝ) : EReal) := by
  refine (dats m 0 c).arrAt_eq_of_covers 4 _ (by decide +kernel) fun t hf y => ?_
  blk_simp
  rw [after0_4]
  refine (block_eq (p := fun r => P (row t r)) (t := fun r => T (row t r)) (fun r k => (iblk0_eq m c t r k).trans (hP _ _))
    (fun r k => (iblk1_eq m c t r k).trans (hT _ _)) (fun r k => (iblk2_eq m c t r k).trans (hP _ _))
    (fun r k => (iblk3_eq m c t r k).trans (hT _ _)) (fun r => add_pos_of_pos_of_nonneg eps_pos (ideal_nonneg _)) _).trans ?_
  have e : (win0_4.blk t).view.emb y 0 = t := Fin.ext (by blk_simp [block_index])
  rw [e]
  rfl

/-- The scalar that the kernel returns. -/
theorem result_eq (c : Dev nD) (hP : ∀ b k, m ((c : Thread nD τ).loc main_arg0) (ix2 b k) = ((P b k : ℝ) : EReal))
    (hT : ∀ b k, FloatOps.sitofp (F := Ideal) .f32 (m ((c : Thread nD τ).loc main_arg1) (ix2 b k)) = (((T b k : ℕ) : ℝ) : EReal)) :
    Pipeline.afterTail₀ cfgs (dats m) 0 (V0 m) [hostOps1] c main_v0 =
      fun _ : S_.Idx => ((∑ b, rowSum (P b) (T b) : ℝ) : EReal) := by
  funext j
  unfold Pipeline.afterTail₀
  after_reads_at
  have hw : ∀ i : S16x1x1.Idx, Pipeline.withArrays (cfgs 0).spec c (V0 m c) (fun w => (dats m 0 c).arrAt w (cfgs 0).N)
      (Proc.devRef .tc main_call0_v7) i = ((∑ r, rowSum (P (row (i 0) r)) (T (row (i 0) r)) : ℝ) : EReal) := fun i =>
    (congrFun (Pipeline.withArrays_arr (cfgs 0).spec winFacts0.arr_inj c (V0 m c)
      (fun w => (dats m 0 c).arrAt w (cfgs 0).N) 4) i).trans (congrFun (partials_eq c hP hT) i)
  simp only [hw, Finset.univ_unique, Finset.sum_singleton]
  rw [coe_sum, ← sum_row]
  rfl

/-- The run of the kernel: the scalar it returns, and its arguments as they were. -/
theorem kernel_run {P : Dev nD → Fin 1024 → Fin 200 → ℝ} {T : Dev nD → Fin 1024 → Fin 200 → ℕ}
    (hP : ∀ (c : Dev nD) b k, m ((c.tc : Thread nD τ).loc main_arg0) (ix2 b k) = ((P c b k : ℝ) : EReal))
    (hT : ∀ (c : Dev nD) b k, FloatOps.sitofp (F := Ideal) .f32 (m ((c.tc : Thread nD τ).loc main_arg1) (ix2 b k)) =
      (((T c b k : ℕ) : ℝ) : EReal)) :
    θ_run defs (onTc (τ := τ) (main (F := Ideal))) ⟨m, fun _ => 0, ρ⟩ fun r => ∀ c : Dev nD,
      r.2.mem ((c.tc : Thread nD τ).loc main_v0) = (fun _ : S_.Idx => ((∑ b, rowSum (P c b) (T c b) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq c (hP c) (hT c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.LambdaLoss
-- ==== Proof.SortRank.lean ====
module

public import proofs.«01_k».proof.Proof.RealLoss
public import Idealize.ShloMosaic.Lib.SortFacts
public import Idealize.ShloMosaic.Lib.PlanTiles.StableSort

/-! The order in which a stable sort of real keys leaves the places of a row. -/

@[expose] public section

noncomputable section

namespace Cert.LambdaLoss

open Idealize.ShloMosaic

variable {n : ℕ}

/-- How many places of a row hold a key strictly below the key at `a`. -/
def below (p : Fin n → ℝ) (a : Fin n) : ℕ := (Finset.univ.filter fun b => p b < p a).card

/-- Comparing two keys is comparing how many keys are below each. -/
theorem below_lt_iff (p : Fin n → ℝ) (a b : Fin n) : below p a < below p b ↔ p a < p b := by
  have mono : ∀ x y, p x ≤ p y → below p x ≤ below p y := fun x y h =>
    Finset.card_le_card fun z hz => by
      simp only [Finset.mem_filter, Finset.mem_univ, true_and] at hz ⊢
      exact lt_of_lt_of_le hz h
  constructor
  · intro h
    by_contra hn
    exact absurd (mono b a (not_lt.mp hn)) (not_le.mpr h)
  · intro h
    refine Finset.card_lt_card (Finset.ssubset_iff_of_subset (fun z hz => ?_) |>.mpr ⟨a, ?_, ?_⟩)
    · simp only [Finset.mem_filter, Finset.mem_univ, true_and] at hz ⊢
      exact hz.trans h
    · simpa using h
    · simp

/-- The places of a row in the order a stable sort by descending key leaves them. -/
def order (p : Fin n → ℝ) : Fin n → Fin n := sortedFrom fun a b => decide (p b < p a)

/-- The sorted order as a permutation of the places. -/
def orderPerm (p : Fin n → ℝ) : Equiv.Perm (Fin n) :=
  Equiv.ofBijective (order p) ⟨sortedFrom_injective _, sortedFrom_surjective _⟩

/-- The permutation reads as the sorted order. -/
theorem orderPerm_apply (p : Fin n → ℝ) (i : Fin n) : orderPerm p i = order p i := rfl

/-- The permutation as a function is the sorted order. -/
theorem coe_orderPerm (p : Fin n → ℝ) : ⇑(orderPerm p) = order p := rfl

/-- In the sorted order an earlier place comes before a later one: its key is larger, or the keys
    are equal and it stood earlier in the row. -/
theorem order_before (p : Fin n → ℝ) (i j : Fin n) (h : i < j) : Before p (order p i) (order p j) := by
  have hR : (fun a b : Fin n => decide (p b < p a)) = fun a b => decide (below p b < below p a) := by
    funext a b
    simp only [below_lt_iff]
  have hp : (sortPositions n fun a b => decide (p b < p a)).Pairwise (PlanTiles.Lex (below p) (· < ·)) := by
    rw [hR]
    exact PlanTiles.pairwise_stableSort_lex (below p) (· < ·) (List.finRange n) (List.pairwise_lt_finRange n)
  have := List.pairwise_iff_get.mp hp (i.cast (length_sortPositions n _).symm) (j.cast (length_sortPositions n _).symm) h
  rcases this with h1 | ⟨h1, h2⟩
  · exact Or.inl ((below_lt_iff p _ _).mp h1)
  · have h1' : below p (order p i) = below p (order p j) := h1
    refine Or.inr ⟨le_antisymm (not_lt.mp fun hl => ?_) (not_lt.mp fun hl => ?_), h2⟩ <;>
      exact absurd ((below_lt_iff p _ _).mpr hl) (by rw [h1']; exact lt_irrefl _)

/-- In the sorted order the keys descend. -/
theorem order_desc (p : Fin n → ℝ) (i j : Fin n) (h : i < j) : p (order p j) ≤ p (order p i) := by
  rcases order_before p i j h with h1 | ⟨h1, -⟩
  · exact h1.le
  · exact h1.ge

end Cert.LambdaLoss
-- ==== Proof.RefSort.lean ====
module

public import proofs.«01_k».proof.Proof.SortRank
public import proofs.«01_k».proof.Proof.Coe
public import proofs.«01_k».proof.Proof.Gen.ReferenceIdeal.Read
public import Idealize.ShloMosaic.Lib.Pointwise
public import Idealize.ShloMosaic.Lib.WordCmp

/-! What the reference's sorts and its reads along a sorted row leave, in real numbers. -/

@[expose] public section

set_option maxRecDepth 16384

noncomputable section

namespace Cert.LambdaLoss

open Idealize.ShloMosaic Idealize.ShloMosaic.TcCoe Idealize.ShloMosaic.WordCmp
open Cert.ReferenceIdeal Cert.ReferenceIdeal.Gen Cert.ReferenceIdeal.Read

/-! ## Sorting along a row -/

/-- Position `k` of the row through `(b, i)` is `(b, k)`. -/
theorem along_row (h : 1 < S1024x200.rank) (b : Fin 1024) (i : Fin 200) (k : Fin (S1024x200.size ⟨1, h⟩)) :
    Shape.Idx.along (s := S1024x200) (ix2 b i) ⟨1, h⟩ k = ix2 b (show Fin 200 from k) := by
  funext a
  match a with
  | ⟨0, _⟩ => rfl
  | ⟨1, _⟩ => rfl

/-- The comparator of a one-operand sort says "before" exactly when the left key is the smaller. -/
theorem before_key (x y : ℝ) :
    (comparator_f32_d1 (F := Ideal) (x : EReal) (y : EReal) == 1#1) = decide (x < y) := by
  have h : comparator_f32_d1 (F := Ideal) (x : EReal) (y : EReal) = BitVec.ofBool (decide (x < y)) := by
    have hz : ∀ z : ℝ, Scalar.select (FloatOps.cmpf (F := Ideal) (φ := .f32) .une (z : EReal) (z : EReal)) (FloatOps.ofBits (F := Ideal) .f32 0x7FC00000#32)
        (Scalar.select (FloatOps.cmpf (F := Ideal) (φ := .f32) .oeq (z : EReal) (FloatOps.ofBits (F := Ideal) .f32 0x00000000#32))
          (FloatOps.ofBits (F := Ideal) .f32 0x00000000#32) (z : EReal)) = (z : EReal) := by
      intro z
      simp only [Ideal.cmpf_def, Ideal.ofBits_def, Ideal.cmp, select_ofBool, lit_zero]
      rcases eq_or_ne z 0 with rfl | h0
      · simp
      · rw [if_neg (by simp), if_neg (by simpa using h0)]
    unfold comparator_f32_d1
    dsimp only
    rw [hz, hz, Ideal.cmpfTotal_def]
    simp [Ideal.cmp, CmpDirection.ordered]
  rw [h]
  by_cases hxy : x < y <;> simp [hxy]

/-- The comparator of a sort carrying positions says "before" exactly when the left key is the smaller. -/
theorem before_pair (x y : ℝ) (u v : BitVec 32) :
    (comparator_f32_i32_d1 (F := Ideal) ((x : EReal), u) ((y : EReal), v) == 1#1) = decide (x < y) :=
  before_key x y

/-- Sorting the negated keys of a row reads the row in descending order. -/
theorem sort_neg (x : FVec Ideal S1024x200 .f32) (p : Fin 1024 → Fin 200 → ℝ)
    (hx : ∀ b k, x (ix2 b k) = ((-(p b k) : ℝ) : EReal)) (b : Fin 1024) (i : Fin 200) :
    Host.sort S1024x200 1 (comparator_f32_d1 (F := Ideal)) x (ix2 b i) = ((-(p b (order (p b) i)) : ℝ) : EReal) := by
  unfold Host.sort
  rw [dif_pos (by decide : 1 < S1024x200.rank)]
  simp only [along_row]
  show x (ix2 b (sortedFrom (n := 200) (fun k k' : Fin 200 => comparator_f32_d1 (F := Ideal) (x (ix2 b k)) (x (ix2 b k')) == 1#1) i)) = _
  simp only [hx, before_key, neg_lt_neg_iff]
  rfl

/-- Sorting the negated keys of a row with the positions carried leaves the positions in descending order of the keys. -/
theorem argsort_neg (x : FVec Ideal S1024x200 .f32) (y : IVec S1024x200 32) (p : Fin 1024 → Fin 200 → ℝ)
    (hx : ∀ b k, x (ix2 b k) = ((-(p b k) : ℝ) : EReal)) (hy : ∀ b (k : Fin 200), y (ix2 b k) = BitVec.ofNat 32 k.val)
    (b : Fin 1024) (i : Fin 200) :
    (Host.sort2 S1024x200 1 (comparator_f32_i32_d1 (F := Ideal)) x y).2 (ix2 b i) = BitVec.ofNat 32 (order (p b) i).val := by
  unfold Host.sort2
  rw [dif_pos (by decide : 1 < S1024x200.rank)]
  simp only [along_row]
  show y (ix2 b (sortedFrom (n := 200) (fun k k' : Fin 200 => comparator_f32_i32_d1 (F := Ideal) (x (ix2 b k), y (ix2 b k)) (x (ix2 b k'), y (ix2 b k')) == 1#1) i)) = _
  simp only [hx, before_pair, neg_lt_neg_iff]
  exact hy b _

/-! ## Reading along a row at positions -/

/-- The gather along the rows, read at `(b, i)`: the operand in row `b` at the position the start index names. -/
theorem gather_row (x : FVec Ideal S1024x200 .f32) (idx : IVec S1024x200x1 32) (b : Fin 1024) (i k : Fin 200)
    (hk : (idx (ix3 b i 0)).toInt = (k.val : ℤ)) :
    Host.gather gather_S1024x200_S1024x200x1_S1024x200_n_1_0_0_1_2_11 x idx (ix2 b i) = x (ix2 b k) := by
  unfold Host.gather
  congr 1
  funext a
  refine Fin.ext ?_
  show GatherDims.start gather_S1024x200_S1024x200x1_S1024x200_n_1_0_0_1_2_11 (ix2 b i) idx a
    + GatherDims.batchCoord gather_S1024x200_S1024x200x1_S1024x200_n_1_0_0_1_2_11 (ix2 b i) a
    + GatherDims.offCoord gather_S1024x200_S1024x200x1_S1024x200_n_1_0_0_1_2_11 (ix2 b i) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S1024x200_S1024x200x1_S1024x200_n_1_0_0_1_2_11.operandBatchingDims from List.mem_singleton.mpr rfl)]
    simp only [Nat.zero_add, Nat.add_zero]
    rfl
  · rw [GatherDims.batchCoord_eq_zero _ _ _ (fun h => by simp [gather_S1024x200_S1024x200x1_S1024x200_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x200_S1024x200x1_S1024x200_n_1_0_0_1_2_11.startIndexMap from List.mem_singleton.mpr rfl)]
    have hsi : gather_S1024x200_S1024x200x1_S1024x200_n_1_0_0_1_2_11.siIdx (ix2 b i)
        ⟨List.idxOf (1 : Fin 2) gather_S1024x200_S1024x200x1_S1024x200_n_1_0_0_1_2_11.startIndexMap,
          List.idxOf_lt_length_iff.2 (List.mem_singleton.mpr rfl)⟩ = ix3 b i 0 := by
      funext c; refine Fin.ext ?_
      match c with
      | ⟨0, _⟩ => rfl
      | ⟨1, _⟩ => rfl
      | ⟨2, _⟩ => rfl
    rw [hsi, hk]
    show min (Int.toNat (k.val : ℤ)) 199 = k.val
    omega

/-- A conjunction folded over elements that are all true is true. -/
theorem foldl_and_true {ι : Type} (l : List ι) (f : ι → BitVec 1) (hf : ∀ n, f n = 1#1) :
    l.foldl (fun r n => IntOp.andi r (f n)) 1#1 = 1#1 := by
  induction l with
  | nil => rfl
  | cons a l ih => rw [List.foldl_cons, hf a]; exact ih

end Cert.LambdaLoss
-- ==== Proof.RefValue.lean ====
module

public import proofs.«01_k».proof.Proof.RefSort

/-! The reference's loss in real numbers: its value for real scores and labels that are natural numbers up to four. -/

@[expose] public section

set_option maxRecDepth 16384

noncomputable section

namespace Cert.LambdaLoss

open Idealize.ShloMosaic Idealize.ShloMosaic.TcCoe Idealize.ShloMosaic.WordCmp
open Cert.ReferenceIdeal Cert.ReferenceIdeal.Gen Cert.ReferenceIdeal.Read

variable {x0 : FVec Ideal S1024x200 .f32} {x1 : IVec S1024x200 32}
  {P : Fin 1024 → Fin 200 → ℝ} {T : Fin 1024 → Fin 200 → ℕ}
  (hT : ∀ b k, FloatOps.sitofp (F := Ideal) .f32 (x1 (ix2 b k)) = (((T b k : ℕ) : ℝ) : EReal))
  (hP : ∀ b k, x0 (ix2 b k) = ((P b k : ℝ) : EReal))

include hT

/-! ## Scores and labels, and their order -/

/-- A label as a number. -/
theorem ref_label (b : Fin 1024) (k : Fin 200) :
    val_main_v0 (F := Ideal) x1 (ix2 b k) = (((T b k : ℕ) : ℝ) : EReal) := hT b k

/-- No label marks a padded document. -/
theorem ref_not_padded (b : Fin 1024) (k : Fin 200) :
    val_main_v2 (F := Ideal) x1 (ix2 b k) = 0#1 := by
  rw [val_main_v2_apply, ref_label hT]
  show Ideal.cmp .oeq _ (Ideal.ofBits .f32 0xBF800000#32) = _
  rw [lit_neg_one]
  have : (T b k : ℝ) ≠ -1 := by have := (T b k).cast_nonneg (α := ℝ); linarith
  have hne : ¬ (((T b k : ℕ) : ℝ) : EReal) = ((-1 : ℝ) : EReal) := by rw [EReal.coe_eq_coe_iff]; exact this
  show BitVec.ofBool (decide _) = _
  rw [decide_eq_false hne]
  rfl

include hP in
/-- The scores after the padding mask. -/
theorem ref_score (b : Fin 1024) (k : Fin 200) :
    val_main_v3 (F := Ideal) x0 x1 (ix2 b k) = ((P b k : ℝ) : EReal) := by
  rw [val_main_v3_apply, ref_not_padded hT]
  exact hP b k

/-- The labels after the padding mask. -/
theorem ref_masked_label (b : Fin 1024) (k : Fin 200) :
    val_main_v4 (F := Ideal) x1 (ix2 b k) = (((T b k : ℕ) : ℝ) : EReal) := by
  rw [val_main_v4_apply, ref_not_padded hT]
  exact hT b k

include hP in
/-- The positions of a row in descending order of the scores. -/
theorem ref_positions (b : Fin 1024) (i : Fin 200) :
    val_main_v6 (F := Ideal) x0 x1 (ix2 b i) = BitVec.ofNat 32 (order (P b) i).val := by
  refine argsort_neg _ _ P (fun b k => ?_) (fun b k => rfl) b i
  rw [val_main_v5_apply, ref_score hT hP]
  rfl

include hP in
/-- The positions after negative ones are wrapped: none is. -/
theorem ref_wrapped (b : Fin 1024) (i : Fin 200) (z : Fin 1) :
    val_main_call3_v5 (F := Ideal) x0 x1 (ix3 b i z) = BitVec.ofNat 32 (order (P b) i).val := by
  have h := (order (P b) i).isLt
  have hv := ref_positions hT hP b i
  pointwise [val_main_call3_v5, val_main_call3_v4, val_main_call3_v1, val_main_call3_v3, val_main_call3_v0, val_main_call3_c]
  rw [hv, cmpi_slt_ofNat (by omega) (by omega), select_ofBool]
  simp

include hP in
/-- Every wrapped position is inside the row. -/
theorem ref_inside (j : S1024x200.Idx) : val_main_call3_v12 (F := Ideal) x0 x1 j = 1#1 := by
  refine foldl_and_true _ (fun n => val_main_call3_v11 (F := Ideal) x0 x1 (S1024x200x1.rowMajor.symm n)) fun n => ?_
  obtain ⟨b, i, z, hz⟩ : ∃ b i z, S1024x200x1.rowMajor.symm n = ix3 b i z := ⟨_, _, _, (ix3_eta _).symm⟩
  have h := (order (P b) i).isLt
  have hv := ref_wrapped hT hP b i z
  rw [hz]
  pointwise [val_main_call3_v11, val_main_call3_v7, val_main_call3_v10, val_main_call3_v6, val_main_call3_c_2, val_main_call3_v9,
    val_main_call3_v8, val_main_call3_c_1]
  rw [hv, cmpi_sge_ofNat (by omega) (by omega), cmpi_sle_ofNat (by omega) (by omega), andi_ofBool,
    decide_eq_true (Nat.zero_le _), decide_eq_true (show (order (P b) i).val ≤ 199 by omega)]
  rfl

include hP in
/-- A row read at its sorted positions. -/
theorem ref_gather (x : FVec Ideal S1024x200 .f32) (b : Fin 1024) (i : Fin 200) :
    Host.gather gather_S1024x200_S1024x200x1_S1024x200_n_1_0_0_1_2_11 x (val_main_call3_v5 (F := Ideal) x0 x1) (ix2 b i) =
      x (ix2 b (order (P b) i)) := by
  have h := (order (P b) i).isLt
  refine gather_row x _ b i _ ?_
  rw [ref_wrapped hT hP, toInt_ofNat_of_lt (by omega)]

include hP in
/-- The scores in descending order. -/
theorem ref_sorted_score (b : Fin 1024) (i : Fin 200) :
    val_main_v7 (F := Ideal) x0 x1 (ix2 b i) = ((P b (order (P b) i) : ℝ) : EReal) := by
  rw [val_main_v7_apply, ref_inside hT hP, select_one]
  exact (ref_gather hT hP _ b i).trans (ref_score hT hP b _)

include hP in
/-- The labels in the order of the scores. -/
theorem ref_sorted_label (b : Fin 1024) (i : Fin 200) :
    val_main_v11 (F := Ideal) x0 x1 (ix2 b i) = (((T b (order (P b) i) : ℕ) : ℝ) : EReal) := by
  rw [val_main_v11_apply, show val_main_call5_v12 (F := Ideal) x0 x1 = val_main_call3_v12 (F := Ideal) x0 x1 from rfl,
    ref_inside hT hP, select_one]
  exact (ref_gather hT hP _ b i).trans (ref_masked_label hT b _)

/-- The labels in descending order. -/
theorem ref_ideal_label (b : Fin 1024) (i : Fin 200) :
    val_main_v10 (F := Ideal) x1 (ix2 b i) = (((T b (order (fun k => (T b k : ℝ)) i) : ℕ) : ℝ) : EReal) := by
  have h := sort_neg (val_main_v8 (F := Ideal) x1) (fun b k => (T b k : ℝ)) (fun b k => by
    rw [val_main_v8_apply, ref_masked_label hT]; rfl) b i
  rw [val_main_v10_apply, show val_main_v9 (F := Ideal) x1 (ix2 b i) = _ from h]
  show -((-(T b (order (fun k => (T b k : ℝ)) i) : ℝ) : ℝ) : EReal) = _
  rw [← EReal.coe_neg, neg_neg]

include hP in
/-- No label in the order of the scores is negative. -/
theorem ref_sorted_label_max (b : Fin 1024) (i : Fin 200) :
    val_main_v24 (F := Ideal) x0 x1 (ix2 b i) = (((T b (order (P b) i) : ℕ) : ℝ) : EReal) := by
  rw [val_main_v24_apply, ref_sorted_label hT hP]
  show max _ (Ideal.ofBits .f32 0x00000000#32) = _
  rw [lit_zero, coe_max, max_eq_left (Nat.cast_nonneg _)]

/-- No label in descending order is negative. -/
theorem ref_ideal_label_max (b : Fin 1024) (i : Fin 200) :
    val_main_v26 (F := Ideal) x1 (ix2 b i) = (((T b (order (fun k => (T b k : ℝ)) i) : ℕ) : ℝ) : EReal) := by
  rw [val_main_v26_apply, ref_ideal_label hT]
  show max _ (Ideal.ofBits .f32 0x00000000#32) = _
  rw [lit_zero, coe_max, max_eq_left (Nat.cast_nonneg _)]

/-! ## Discounts and gains -/

omit hT in
/-- The absolute value of a real number. -/
theorem absf_coe (x : ℝ) : FloatOps.absf (F := Ideal) (φ := .f32) (x : EReal) = ((|x| : ℝ) : EReal) := coe_abs x

omit hT in
/-- The clip's upper bound. -/
theorem lit_clip : Ideal.ofBits .f32 0x4CBEBC20#32 = ((100000000 : ℝ) : EReal) := by
  simp [Ideal.ofBits, Ideal.ieee, -EReal.coe_mul]; norm_num

omit hT in
/-- The clip's lower bound. -/
theorem lit_neg_clip : Ideal.ofBits .f32 0xCCBEBC20#32 = ((-100000000 : ℝ) : EReal) := by
  simp [Ideal.ofBits, Ideal.ieee, -EReal.coe_mul]; norm_num

omit hT in
/-- The literal infinity. -/
theorem lit_top : Ideal.ofBits .f32 0x7F800000#32 = (⊤ : EReal) := by
  simp [Ideal.ofBits, Ideal.ieee]

omit hT in
/-- The logarithm of two as the reference takes it. -/
theorem ref_log_two : Ideal.log (Ideal.ofBits .f32 0x40000000#32) = ((Real.log 2 : ℝ) : EReal) := by
  rw [lit_two, log_coe_pos (by norm_num)]

omit hT in
/-- Two to the power of a natural number as the reference takes it. -/
theorem pow_two_natCast (n : ℕ) : Ideal.pow (Ideal.ofBits .f32 0x40000000#32) ((n : ℝ) : EReal) = (((2 : ℝ) ^ n : ℝ) : EReal) := by
  rw [lit_two, Ideal.pow_coe_coe]
  congr 1
  exact Real.rpow_natCast 2 n

omit hT in
/-- The number of a position. -/
theorem ref_position (k : Fin 200) : val_main_v27 (F := Ideal) (ix1 k) = (((k : ℕ) : ℝ) : EReal) := by
  have := k.isLt
  show (((BitVec.ofNat 32 k.val).toInt : ℝ) : EReal) = _
  rw [toInt_ofNat_of_lt (by omega)]; simp

omit hT in
/-- The logarithm that discounts a position. -/
theorem ref_log (z : Fin 1) (k : Fin 200) : val_main_v36 (F := Ideal) (ix2 z k) = ((lg ((k.val : ℝ) + 2) : ℝ) : EReal) := by
  pointwise [val_main_v36, val_main_v35, val_main_v32, val_main_v31, val_main_v30, val_main_v29, val_main_v28, val_main_cst_6, val_main_cst_7,
    val_main_v34, val_main_v33, val_main_cst_8]
  rw [ref_position, ref_log_two, ← EReal.coe_one, ← EReal.coe_add, ← EReal.coe_add, log_coe_pos (by positivity),
    div_coe_coe log_two_pos.ne', show (1 + (1 + (k.val : ℝ))) = (k.val : ℝ) + 2 by ring]
  rfl

/-- The gain of a position of the ideal order, discounted. -/
theorem ref_ideal_gain (b : Fin 1024) (i : Fin 200) :
    val_main_v42 (F := Ideal) x1 (ix2 b i) =
      ((((2 : ℝ) ^ T b (order (fun k => (T b k : ℝ)) i) - 1) / lg ((i.val : ℝ) + 2) : ℝ) : EReal) := by
  pointwise [val_main_v42, val_main_v40, val_main_v38, val_main_v37, val_main_cst_9, val_main_v39, val_main_cst_10, val_main_v41]
  have h1 := one_le_lg i.val
  rw [ref_ideal_label_max hT, ref_log, pow_two_natCast, ← EReal.coe_one, ← EReal.coe_sub, div_coe_coe (by linarith)]

/-- The ideal gain of a row with its guard. -/
theorem ref_guarded (h4 : ∀ b k, T b k ≤ 4) (b : Fin 1024) :
    val_main_v45 (F := Ideal) x1 (ix1 b) = ((ideal (T b) + eps : ℝ) : EReal) := by
  pointwise [val_main_v45, val_main_v43, val_main_v44, val_main_cst_12, val_main_cst_11]
  rw [Finset.sum_congr rfl fun i _ => ref_ideal_gain hT b i, coe_sum, lit_eps, ← EReal.coe_add]
  congr 2
  refine sum_sorted (T b) (fun i => T b (order (fun k => (T b k : ℝ)) i)) (orderPerm fun k => (T b k : ℝ))
    (funext fun i => congrArg (T b) (orderPerm_apply _ i).symm) (fun i j hij => ?_) (h4 b)
  exact_mod_cast order_desc (fun k => (T b k : ℝ)) i j hij

include hP in
/-- The gain of a document of the sorted row, over the ideal gain. -/
theorem ref_gain (h4 : ∀ b k, T b k ≤ 4) (b : Fin 1024) (i : Fin 200) :
    val_main_v52 (F := Ideal) x0 x1 (ix2 b i) = ((((2 : ℝ) ^ T b (order (P b) i) - 1) / (ideal (T b) + eps) : ℝ) : EReal) := by
  pointwise [val_main_v52, val_main_v49, val_main_v47, val_main_v46, val_main_cst_13, val_main_v48, val_main_cst_14, val_main_v51, val_main_v50]
  have hI := ideal_nonneg (T b)
  have he := eps_pos
  rw [ref_sorted_label_max hT hP, ref_guarded hT h4, pow_two_natCast, ← EReal.coe_one, ← EReal.coe_sub, div_coe_coe (by linarith)]

omit hT in
/-- The gap between the discounts of two positions. -/
theorem ref_discount_gap (z : Fin 1) (i j : Fin 200) :
    val_main_v62 (F := Ideal) (ix3 z i j) = ((|disc i - disc j| : ℝ) : EReal) := by
  pointwise [val_main_v62, val_main_v61, val_main_v59, val_main_v60, val_main_v55, val_main_v54, val_main_v53, val_main_cst_15,
    val_main_v58, val_main_v57, val_main_v56, val_main_cst_16]
  have hd : ∀ k : Fin 200, Ideal.div 1 ((lg ((k.val : ℝ) + 2) : ℝ) : EReal) = ((disc k : ℝ) : EReal) := fun k => by
    have h1 := one_le_lg k.val
    rw [← EReal.coe_one, div_coe_coe (by linarith)]; rfl
  rw [ref_log, ref_log, hd, hd, ← EReal.coe_sub, absf_coe]

/-! ## The loss of a pair -/

include hP in
/-- The weight of a pair of the sorted row. -/
theorem ref_weight (h4 : ∀ b k, T b k ≤ 4) (b : Fin 1024) (i j : Fin 200) :
    val_main_v70 (F := Ideal) x0 x1 (ix3 b i j) =
      ((|disc i - disc j| * |((2 : ℝ) ^ T b (order (P b) i) - 1) / (ideal (T b) + eps) - ((2 : ℝ) ^ T b (order (P b) j) - 1) / (ideal (T b) + eps)| : ℝ) : EReal) := by
  pointwise [val_main_v70, val_main_v69, val_main_v68, val_main_v67, val_main_v65, val_main_v66, val_main_v63, val_main_v64]
  rw [ref_discount_gap, ref_gain hT hP h4, ref_gain hT hP h4, ← EReal.coe_sub, absf_coe, ← EReal.coe_mul]

include hP in
/-- The difference of two scores, which the clip leaves alone. -/
theorem ref_difference (hb : ∀ b k, |P b k| ≤ 50000000) (b : Fin 1024) (i j : Fin 200) :
    val_main_v76 (F := Ideal) x0 x1 (ix3 b i j) = ((P b (order (P b) i) - P b (order (P b) j) : ℝ) : EReal) := by
  pointwise [val_main_v76, val_main_call6_v4, val_main_call6_v3, val_main_cst_18, val_main_call6_v2, val_main_call6_v1, val_main_call6_v0,
    val_main_cst_17, val_main_v75, val_main_v73, val_main_v74, val_main_v71, val_main_v72]
  change min (Ideal.ofBits .f32 0x4CBEBC20#32) (max (Ideal.ofBits .f32 0xCCBEBC20#32) _) = _
  have h1 := abs_le.mp (hb b (order (P b) i))
  have h2 := abs_le.mp (hb b (order (P b) j))
  rw [ref_sorted_score hT hP, ref_sorted_score hT hP, ← EReal.coe_sub, lit_clip, lit_neg_clip, coe_max, coe_min,
    max_eq_right (by linarith), min_eq_right (by linarith)]

include hP in
/-- Whether a pair counts: its first label is the larger. -/
theorem ref_counts (b : Fin 1024) (i j : Fin 200) :
    val_main_v22 (F := Ideal) x0 x1 (ix3 b i j) = BitVec.ofBool (decide (T b (order (P b) j) < T b (order (P b) i))) := by
  pointwise [val_main_v22, val_main_v19, val_main_v21, val_main_v17, val_main_v18, val_main_cst_2, val_main_v20, val_main_cst_3,
    val_main_v16, val_main_v14, val_main_v15, val_main_v12, val_main_v13]
  rw [ref_sorted_label hT hP, ref_sorted_label hT hP, ← EReal.coe_sub, absf_coe, lit_top, decide_eq_true (EReal.coe_lt_top _), andi_ofBool,
    Bool.true_and, ← EReal.coe_zero]
  congr 1
  refine decide_eq_decide.mpr ?_
  rw [EReal.coe_lt_coe_iff, sub_pos, Nat.cast_lt]

include hP in
/-- The loss of a pair of the sorted row. -/
theorem ref_pair (h4 : ∀ b k, T b k ≤ 4) (hb : ∀ b k, |P b k| ≤ 50000000) (b : Fin 1024) (i j : Fin 200) :
    val_main_v94 (F := Ideal) x0 x1 (ix3 b i j) =
      ((sortedTerm (ideal (T b) + eps) (P b ∘ order (P b)) (T b ∘ order (P b)) i j : ℝ) : EReal) := by
  pointwise [val_main_v94, val_main_v93, val_main_v90, val_main_v89, val_main_v87, val_main_v86, val_main_v84, val_main_v83, val_main_v82,
    val_main_v81, val_main_v80, val_main_v79, val_main_v78, val_main_v77, val_main_cst_19, val_main_cst_20, val_main_cst_21, val_main_cst_22,
    val_main_v85, val_main_cst_23, val_main_v88, val_main_v92, val_main_v91, val_main_cst_24, val_main_cst_25, val_main_call7_v0, val_main_call7_v1]
  set D := P b (order (P b) i) - P b (order (P b) j) with hD
  set W := |disc i - disc j| * |((2 : ℝ) ^ T b (order (P b) i) - 1) / (ideal (T b) + eps) - ((2 : ℝ) ^ T b (order (P b) j) - 1) / (ideal (T b) + eps)| with hW
  have hq : 0 < 1 + Real.exp (-D) := by positivity
  have he := eps_pos
  have hm : 0 < max (max (1 / (1 + Real.exp (-D))) eps ^ W) eps := lt_max_of_lt_right he
  rw [ref_counts hT hP, select_ofBool, ref_difference hT hP hb, ref_weight hT hP h4, ← hD, ← hW, ← EReal.coe_neg, Ideal.exp_coe, ← EReal.coe_one, ← EReal.coe_add,
    div_coe_coe hq.ne', lit_eps, coe_max, Ideal.pow_coe_coe]
  change (if _ then Ideal.div (Ideal.log (max (((max (1 / (1 + Real.exp (-D))) eps ^ W : ℝ)) : EReal) _)) _ else Ideal.ofBits .f32 0x00000000#32) = _
  rw [coe_max, log_coe_pos hm, ref_log_two, div_coe_coe log_two_pos.ne', lit_zero, coe_ite]
  simp only [decide_eq_true_eq]
  rfl

include hP in
/-- The reference's loss. -/
theorem ref_loss (h4 : ∀ b k, T b k ≤ 4) (hb : ∀ b k, |P b k| ≤ 50000000) (z : S_.Idx) :
    val_main_v96 (F := Ideal) x0 x1 z =
      ((-∑ b, ∑ i, ∑ j, sortedTerm (ideal (T b) + eps) (P b ∘ order (P b)) (T b ∘ order (P b)) i j : ℝ) : EReal) := by
  rw [val_main_v96_apply, val_main_v95_apply, sum_idx3]
  simp only [ref_pair hT hP h4 hb, coe_sum]
  show -(Ideal.ofBits .f32 0x00000000#32 + _) = _
  rw [lit_zero, ← EReal.coe_add, ← EReal.coe_neg, zero_add]

end Cert.LambdaLoss
-- ==== Proof.Loss.lean ====
module

public import proofs.«01_k».proof.Defs
public import proofs.«01_k».proof.Proof.Frames
public import proofs.«01_k».proof.Proof.KernelRun
public import proofs.«01_k».proof.Proof.RefValue

/-! The value claim: in the range of the precondition the kernel and the reference return the same loss. -/

@[expose] public section

set_option maxRecDepth 16384

noncomputable section

namespace Cert.LambdaLoss

open Idealize.ShloMosaic Idealize.ShloMosaic.TcCoe Idealize.ShloMosaic.WordCmp Idealize.SL.Sem

/-! ## The precondition -/

/-- The shape relation of the precondition holds. -/
theorem facts_in_range : Cert.Pre_in_range.Facts := ⟨by decide⟩

/-- The bound on the scores. -/
theorem lit_bound : Ideal.ofBits .f32 0x4C3EBC20#32 = ((50000000 : ℝ) : EReal) := by
  simp [Ideal.ofBits, Ideal.ieee, -EReal.coe_mul]; norm_num

/-- An extended real whose absolute value is at most a real bound is a real number within the bound. -/
theorem real_of_abs_le {x : EReal} {r : ℝ} (h : max x (-x) ≤ (r : EReal)) : x = ((x.toReal : ℝ) : EReal) ∧ |x.toReal| ≤ r := by
  obtain ⟨h1, h2⟩ := max_le_iff.mp h
  have ht : x ≠ ⊤ := fun e => by rw [e] at h1; exact absurd h1 (not_le.mpr (EReal.coe_lt_top r))
  have hb : x ≠ ⊥ := fun e => by rw [e, EReal.neg_bot] at h2; exact absurd h2 (not_le.mpr (EReal.coe_lt_top r))
  have hx := EReal.coe_toReal ht hb
  refine ⟨hx.symm, abs_le.mpr ⟨?_, ?_⟩⟩
  · rw [← hx, ← EReal.coe_neg, EReal.coe_le_coe_iff] at h2; linarith
  · rw [← hx, EReal.coe_le_coe_iff] at h1; exact h1

/-- What the precondition says at one document. -/
theorem in_range_at [Cert.Pre_in_range.Facts] (x0 : FVec Ideal Cert.Pre_in_range.S1024x200 .f32) (x1 : IVec Cert.Pre_in_range.S1024x200 32)
    (h : Cert.Pre_in_range.fn (F := Ideal) x0 x1 = fun _ => 1#1) (b : Fin 1024) (k : Fin 200) :
    0 ≤ (x1 (ix2 b k)).toInt ∧ (x1 (ix2 b k)).toInt ≤ 4 ∧ max (x0 (ix2 b k)) (-(x0 (ix2 b k))) ≤ ((50000000 : ℝ) : EReal) := by
  have hx := congrFun h (ix2 b k)
  pointwise [Cert.Pre_in_range.fn] at hx
  rw [cmpi_sge_eq, cmpi_sle_eq, andi_ofBool, andi_ofBool, ofBool_eq_one_iff, Bool.and_eq_true, Bool.and_eq_true,
    decide_eq_true_eq, decide_eq_true_eq, decide_eq_true_eq, lit_bound] at hx
  exact ⟨hx.1.1, hx.1.2, hx.2⟩

/-- The score of a document as a real number. -/
def scoreOf (x0 : FVec Ideal Cert.KernelIdeal.S1024x200 .f32) (b : Fin 1024) (k : Fin 200) : ℝ := EReal.toReal (x0 (ix2 b k))

/-- The label of a document as a natural number. -/
def gradeOf (x1 : IVec Cert.KernelIdeal.S1024x200 32) (b : Fin 1024) (k : Fin 200) : ℕ := (x1 (ix2 b k)).toInt.toNat

/-! ## The two losses agree -/

/-- The kernel's sum over the pairs of a row is the reference's, negated. -/
theorem rowSum_eq (p : Fin 200 → ℝ) (t : Fin 200 → ℕ) (ht : ∀ a, t a ≤ 4) :
    rowSum p t = -∑ i, ∑ j, sortedTerm (ideal t + eps) (p ∘ order p) (t ∘ order p) i j := by
  have hI := ideal_nonneg t
  have he := eps_pos
  unfold rowSum
  rw [add_comm eps, ← coe_orderPerm]
  exact row_eq (ideal t + eps) (by linarith) p t (fun a => (gain_le_ideal t ht a).trans (by linarith)) (orderPerm p)
    (fun i j h => by rw [coe_orderPerm]; exact order_before p i j h)

/-- In the range of the precondition the kernel and the reference return the same loss, and keep their arguments. -/
theorem same_loss [hPre : Cert.Pre_in_range.Facts] :
    Cert.algebraic_KernelIdeal_ReferenceIdeal_pre_in_range (hKernelIdeal := Cert.KernelIdeal.Gen.facts)
      (hReferenceIdeal := Cert.ReferenceIdeal.Gen.facts) := by
  intro m g m' g' hpre hargs
  have hr := fun c b k => in_range_at _ _ (hpre c) b k
  have hP := fun c b k => (real_of_abs_le (hr c b k).2.2).1
  have hB := fun c b k => (real_of_abs_le (hr c b k).2.2).2
  have hT : ∀ (c : Dev Cert.KernelIdeal.nD) b k, FloatOps.sitofp (F := Ideal) .f32
      (m ((c.tc : Thread Cert.KernelIdeal.nD Cert.KernelIdeal.τ).loc Cert.KernelIdeal.main_arg1) (ix2 b k)) =
        (((gradeOf (m ((c.tc : Thread Cert.KernelIdeal.nD Cert.KernelIdeal.τ).loc Cert.KernelIdeal.main_arg1)) b k : ℕ) : ℝ) : EReal) := by
    intro c b k
    refine congrArg (fun r : ℝ => (r : EReal)) ?_
    exact_mod_cast (Int.toNat_of_nonneg (hr c b k).1).symm
  have h4 : ∀ (c : Dev Cert.KernelIdeal.nD) b k,
      gradeOf (m ((c.tc : Thread Cert.KernelIdeal.nD Cert.KernelIdeal.τ).loc Cert.KernelIdeal.main_arg1)) b k ≤ 4 := by
    intro c b k
    have h1 := (hr c b k).2.1
    unfold gradeOf
    omega
  refine ⟨_, kernel_run (m := m) (ρ := g)
    (P := fun c => scoreOf (m ((c.tc : Thread Cert.KernelIdeal.nD Cert.KernelIdeal.τ).loc Cert.KernelIdeal.main_arg0)))
    (T := fun c => gradeOf (m ((c.tc : Thread Cert.KernelIdeal.nD Cert.KernelIdeal.τ).loc Cert.KernelIdeal.main_arg1))) hP hT, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v96_eq, (hargs c).1, (hargs c).2]
  funext z
  refine (ref_loss (hT c) (hP c) (h4 c) (hB c) z).trans ?_
  rw [← Finset.sum_neg_distrib]
  exact congrArg (fun r : ℝ => (r : EReal)) (Finset.sum_congr rfl fun b _ => (rowSum_eq _ _ (h4 c b)).symm)

/-! ## The frames in the precondition's range -/

/-- The idealized kernel in the precondition's range: it runs, keeps its arguments and ends quiet. -/
theorem frame_kernelIdeal_in_range [hPre : Cert.Pre_in_range.Facts] :
    Cert.quiescent_KernelIdeal_pre_in_range (hKernelIdeal := Cert.KernelIdeal.Gen.facts) := fun m ρ _ => frame_kernelIdeal m ρ trivial

/-- The idealized reference in the precondition's range: it runs, keeps its arguments and ends quiet. -/
theorem frame_referenceIdeal_in_range [hPre : Cert.Pre_in_range.Facts] :
    Cert.quiescent_ReferenceIdeal_pre_in_range (hReferenceIdeal := Cert.ReferenceIdeal.Gen.facts) := fun m ρ _ => frame_referenceIdeal m ρ trivial

end Cert.LambdaLoss
-- ==== Proof.lean ====
/- The proof of the certificate's claim: the conjuncts, each proved in its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Loss
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, LambdaLoss.facts_in_range,
    LambdaLoss.frame_kernel, LambdaLoss.frame_kernelIdeal, LambdaLoss.frame_kernelIdeal_in_range (hPre := LambdaLoss.facts_in_range),
    LambdaLoss.frame_referenceIdeal, LambdaLoss.frame_referenceIdeal_in_range (hPre := LambdaLoss.facts_in_range),
    LambdaLoss.preserves, LambdaLoss.same_loss (hPre := LambdaLoss.facts_in_range)⟩

end Cert.Proof

end
